-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Ffn_FfnIdeal : Prop :=
  True

def algebraic_FfnIdeal_FfnReferenceIdeal_pre_finite [hFfnIdeal : Cert.FfnIdeal.Facts] [hFfnReferenceIdeal : Cert.FfnReferenceIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v14) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_v56) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)
      ∧ m' ((c.tc : Thread Cert.InprojReferenceIdeal.nD Cert.InprojReferenceIdeal.τ).loc Cert.InprojReferenceIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v4_0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v27) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10)
          ∧ r.2.mem ((c.tc : Thread Cert.InprojReferenceIdeal.nD Cert.InprojReferenceIdeal.τ).loc Cert.InprojReferenceIdeal.main_arg11) = m' ((c.tc : Thread Cert.InprojReferenceIdeal.nD Cert.InprojReferenceIdeal.τ).loc Cert.InprojReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal_pre_finite (hFfnIdeal := hFfnIdeal) (hFfnReferenceIdeal := hFfnReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
-- ==== Pre_finite.lean ====
abbrev S8x2048x2048 : Shape := ⟨3, ![8, 2048, 2048]⟩
abbrev S8x8192 : Shape := ⟨2, ![8, 8192]⟩
abbrev S1x2048x8192 : Shape := ⟨3, ![1, 2048, 8192]⟩
abbrev S1x8192x2048 : Shape := ⟨3, ![1, 8192, 2048]⟩
abbrev S_ : Shape := ⟨0, ![]⟩

class Facts : Prop where
  bitsLt_bf16_f32 : FTy.bits .bf16 < FTy.bits .f32
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S1x2048x8192 : S_.BroadcastsInDim S1x2048x8192 (![] : Fin 0 → Fin S1x2048x8192.rank)
  reducesTo_S1x2048x8192_S_d0_1_2 : S1x2048x8192.ReducesTo [0, 1, 2] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn_part1 {F : FTy → Type} [FloatOps F] (main_v14 : IVec S_ 1) (main_v15 : FVec F S1x8192x2048 .f32) (main_v16 : FVec F S1x8192x2048 .f32) : IVec S_ 1 :=
  let main_v17 : IVec S1x8192x2048 1 := cmpf .olt main_v15 main_v16
  let main_c_5 : IVec S_ 1 := constantI S_ 1 1#1
  let main_v18 : IVec S_ 1 := (fun x v => Host.reduce IntOp.andi x v reducesTo_S1x8192x2048_S_d0_1_2 h_S_) main_v17 main_c_5
  let main_v19 : IVec S_ 1 := andi main_v14 main_v18
  main_v19

def fn {F : FTy → Type} [FloatOps F] (main_arg0 : FVec F S8x2048x2048 .bf16) (main_arg1 : FVec F S8x2048x2048 .f32) (main_arg2 : FVec F S8x8192 .f32) (main_arg3 : FVec F S1x2048x8192 .f32) (main_arg4 : FVec F S1x8192x2048 .f32) : IVec S_ 1 :=
  let main_v0 : FVec F S8x2048x2048 .f32 := (extf .f32 · bitsLt_bf16_f32) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_c : IVec S_ 1 := constantI S_ 1 1#1
  let main_v4 : IVec S_ 1 := (fun x v => Host.reduce IntOp.andi x v reducesTo_S8x2048x2048_S_d0_1_2 h_S_) main_v3 main_c
  let main_v5 : FVec F S8x8192 .f32 := Host.absf main_arg2
  let main_cst_0 : FVec F S_ .f32 := constant S_ .f32 0x7F800000#32
  let main_v6 : FVec F S8x8192 .f32 := broadcastInDim S8x8192 ![] bcast_S_S8x8192 main_cst_0
  let main_v7 : IVec S8x8192 1 := cmpf .olt main_v5 main_v6
  let main_c_1 : IVec S_ 1 := constantI S_ 1 1#1
  let main_v8 : IVec S_ 1 := (fun x v => Host.reduce IntOp.andi x v reducesTo_S8x8192_S_d0_1 h_S_) main_v7 main_c_1
  let main_v9 : IVec S_ 1 := andi main_v4 main_v8
  let main_v10 : FVec F S1x2048x8192 .f32 := Host.absf main_arg3
  let main_cst_2 : FVec F S_ .f32 := constant S_ .f32 0x7F800000#32
  let main_v11 : FVec F S1x2048x8192 .f32 := broadcastInDim S1x2048x8192 ![] bcast_S_S1x2048x8192 main_cst_2
  let main_v12 : IVec S1x2048x8192 1 := cmpf .olt main_v10 main_v11
  let main_c_3 : IVec S_ 1 := constantI S_ 1 1#1
  let main_v13 : IVec S_ 1 := (fun x v => Host.reduce IntOp.andi x v reducesTo_S1x2048x8192_S_d0_1_2 h_S_) main_v12 main_c_3
  let main_v14 : IVec S_ 1 := andi main_v9 main_v13
  let main_v15 : FVec F S1x8192x2048 .f32 := Host.absf main_arg4
  let main_cst_4 : FVec F S_ .f32 := constant S_ .f32 0x7F800000#32
  let main_v16 : FVec F S1x8192x2048 .f32 := broadcastInDim S1x8192x2048 ![] bcast_S_S1x8192x2048 main_cst_4
  fn_part1 (F := F) main_v14 main_v15 main_v16
-- ==== Kernel.lean ====
abbrev S8x2048x2048 : Shape := ⟨3, ![8, 2048, 2048]⟩
abbrev S8x4096 : Shape := ⟨2, ![8, 4096]⟩
abbrev S1x2048 : Shape := ⟨2, ![1, 2048]⟩
abbrev S1x2048x9728 : Shape := ⟨3, ![1, 2048, 9728]⟩
abbrev S8x2048x5632 : Shape := ⟨3, ![8, 2048, 5632]⟩
abbrev S2x1024 : Shape := ⟨2, ![2, 1024]⟩
abbrev S1x128 : Shape := ⟨2, ![1, 128]⟩
abbrev S1x64 : Shape := ⟨2, ![1, 64]⟩
abbrev S1x16 : Shape := ⟨2, ![1, 16]⟩
abbrev S32x16 : Shape := ⟨2, ![32, 16]⟩
abbrev S8x2x1x2048 : Shape := ⟨4, ![8, 2, 1, 2048]⟩
abbrev S1x2048x4096 : Shape := ⟨3, ![1, 2048, 4096]⟩
abbrev S2048x4096 : Shape := ⟨2, ![2048, 4096]⟩
abbrev S2048x16x256 : Shape := ⟨3, ![2048, 16, 256]⟩
abbrev S16x2048x256 : Shape := ⟨3, ![16, 2048, 256]⟩
abbrev S128 : Shape := ⟨1, ![128]⟩
abbrev S256 : Shape := ⟨1, ![256]⟩
abbrev S256x1 : Shape := ⟨2, ![256, 1]⟩
abbrev S256x128 : Shape := ⟨2, ![256, 128]⟩
abbrev S_ : Shape := ⟨0, ![]⟩
abbrev S256x128x1 : Shape := ⟨3, ![256, 128, 1]⟩
abbrev S256x128x16 : Shape := ⟨3, ![256, 128, 16]⟩
abbrev S256x128x4x4 : Shape := ⟨4, ![256, 128, 4, 4]⟩
abbrev S4x256x4x128 : Shape := ⟨4, ![4, 256, 4, 128]⟩
abbrev S4x256x512 : Shape := ⟨3, ![4, 256, 512]⟩
abbrev S16 : Shape := ⟨1, ![16]⟩
abbrev S1x1x1x64 : Shape := ⟨4, ![1, 1, 1, 64]⟩
abbrev S1x1x4x64 : Shape := ⟨4, ![1, 1, 4, 64]⟩
abbrev S1x256 : Shape := ⟨2, ![1, 256]⟩
abbrev S8x2048x4096 : Shape := ⟨3, ![8, 2048, 4096]⟩
abbrev S8x2048x1024 : Shape := ⟨3, ![8, 2048, 1024]⟩
abbrev S1x256x2048 : Shape := ⟨3, ![1, 256, 2048]⟩
abbrev S1x1x1x2048 : Shape := ⟨4, ![1, 1, 1, 2048]⟩
abbrev S1x256x4096 : Shape := ⟨3, ![1, 256, 4096]⟩
abbrev S1x256x1024 : Shape := ⟨3, ![1, 256, 1024]⟩
abbrev S1x256x512 : Shape := ⟨3, ![1, 256, 512]⟩
abbrev S1x128x512 : Shape := ⟨3, ![1, 128, 512]⟩
abbrev S256x2048 : Shape := ⟨2, ![256, 2048]⟩
abbrev S8x128x128 : Shape := ⟨3, ![8, 128, 128]⟩
abbrev S1024 : Shape := ⟨1, ![1024]⟩
abbrev S1x1024 : Shape := ⟨2, ![1, 1024]⟩
abbrev S256x256 : Shape := ⟨2, ![256, 256]⟩
abbrev S8x256 : Shape := ⟨2, ![8, 256]⟩
abbrev S264x256 : Shape := ⟨2, ![264, 256]⟩
abbrev S128x256 : Shape := ⟨2, ![128, 256]⟩
abbrev S1x128x256 : Shape := ⟨3, ![1, 128, 256]⟩
abbrev S1x256x256 : Shape := ⟨3, ![1, 256, 256]⟩
abbrev S384x256 : Shape := ⟨2, ![384, 256]⟩
abbrev S256x384 : Shape := ⟨2, ![256, 384]⟩
abbrev S1x2048x256 : Shape := ⟨3, ![1, 2048, 256]⟩
abbrev S2048x256 : Shape := ⟨2, ![2048, 256]⟩
abbrev S256x1024 : Shape := ⟨2, ![256, 1024]⟩
abbrev S512x256 : Shape := ⟨2, ![512, 256]⟩
abbrev S256x512 : Shape := ⟨2, ![256, 512]⟩
abbrev S128x512 : Shape := ⟨2, ![128, 512]⟩
abbrev S264x128 : Shape := ⟨2, ![264, 128]⟩
abbrev S4x128 : Shape := ⟨2, ![4, 128]⟩
abbrev S64x128 : Shape := ⟨2, ![64, 128]⟩
abbrev S1 : Shape := ⟨1, ![1]⟩
abbrev S1x512 : Shape := ⟨2, ![1, 512]⟩
abbrev S512 : Shape := ⟨1, ![512]⟩
abbrev S64x256 : Shape := ⟨2, ![64, 256]⟩
abbrev S64x512 : Shape := ⟨2, ![64, 512]⟩
abbrev S192x128 : Shape := ⟨2, ![192, 128]⟩
abbrev S128x128 : Shape := ⟨2, ![128, 128]⟩
abbrev S1x128x128 : Shape := ⟨3, ![1, 128, 128]⟩
abbrev S1x256x128 : Shape := ⟨3, ![1, 256, 128]⟩

abbrev nBuf : Space → Nat
  | .hbm => 93
  | .vmem => 29
  | .smem => 1
  | _ => 0

abbrev bufTy : (tb : Table) → Fin (tcTables nBuf tb) → BufTy
  | .hbm, ⟨0, _⟩ => ⟨S8x2048x2048, .f32⟩
  | .hbm, ⟨1, _⟩ => ⟨S8x4096, .f32⟩
  | .hbm, ⟨2, _⟩ => ⟨S1x2048, .f32⟩
  | .hbm, ⟨3, _⟩ => ⟨S1x2048x9728, .f32⟩
  | .hbm, ⟨4, _⟩ => ⟨S8x2048x5632, .bf16⟩
  | .hbm, ⟨5, _⟩ => ⟨S2x1024, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S1x16, .f32⟩
  | .hbm, ⟨10, _⟩ => ⟨S32x16, .f32⟩
  | .hbm, ⟨11, _⟩ => ⟨S8x2x1x2048, .f32⟩
  | .hbm, ⟨12, _⟩ => ⟨S1x2048x4096, .f32⟩
  | .hbm, ⟨13, _⟩ => ⟨S2048x4096, .f32⟩
  | .hbm, ⟨14, _⟩ => ⟨S2048x4096, .bf16⟩
  | .hbm, ⟨15, _⟩ => ⟨S2048x16x256, .bf16⟩
  | .hbm, ⟨16, _⟩ => ⟨S16x2048x256, .bf16⟩
  | .hbm, ⟨17, _⟩ => ⟨S128, .i32⟩
  | .hbm, ⟨18, _⟩ => ⟨S1x128, .i32⟩
  | .hbm, ⟨19, _⟩ => ⟨S256, .i32⟩
  | .hbm, ⟨20, _⟩ => ⟨S256x1, .i32⟩
  | .hbm, ⟨21, _⟩ => ⟨S256x128, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S256x128, .i32⟩
  | .hbm, ⟨26, _⟩ => ⟨S256x128, .i32⟩
  | .hbm, ⟨27, _⟩ => ⟨S_, .i32⟩
  | .hbm, ⟨28, _⟩ => ⟨S256x128, .i32⟩
  | .hbm, ⟨29, _⟩ => ⟨S256x128, .i1⟩
  | .hbm, ⟨30, _⟩ => ⟨S_, .i32⟩
  | .hbm, ⟨31, _⟩ => ⟨S256x128, .i32⟩
  | .hbm, ⟨32, _⟩ => ⟨S256x128, .i1⟩
  | .hbm, ⟨33, _⟩ => ⟨S256x128, .i1⟩
  | .hbm, ⟨34, _⟩ => ⟨S_, .i32⟩
  | .hbm, ⟨35, _⟩ => ⟨S256x128, .i32⟩
  | .hbm, ⟨36, _⟩ => ⟨S256x128, .i32⟩
  | .hbm, ⟨37, _⟩ => ⟨S_, .i32⟩
  | .hbm, ⟨38, _⟩ => ⟨S256x128, .i32⟩
  | .hbm, ⟨39, _⟩ => ⟨S256x128, .i32⟩
  | .hbm, ⟨40, _⟩ => ⟨S256x128, .f32⟩
  | .hbm, ⟨41, _⟩ => ⟨S_, .f32⟩
  | .hbm, ⟨42, _⟩ => ⟨S256x128, .f32⟩
  | .hbm, ⟨43, _⟩ => ⟨S256x128, .f32⟩
  | .hbm, ⟨44, _⟩ => ⟨S256x128, .f32⟩
  | .hbm, ⟨45, _⟩ => ⟨S_, .f32⟩
  | .hbm, ⟨46, _⟩ => ⟨S256x128, .f32⟩
  | .hbm, ⟨47, _⟩ => ⟨S256x128, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S256x128, .i32⟩
  | .hbm, ⟨52, _⟩ => ⟨S_, .i32⟩
  | .hbm, ⟨53, _⟩ => ⟨S256x128, .i32⟩
  | .hbm, ⟨54, _⟩ => ⟨S256x128, .i32⟩
  | .hbm, ⟨55, _⟩ => ⟨S_, .i32⟩
  | .hbm, ⟨56, _⟩ => ⟨S256x128, .i32⟩
  | .hbm, ⟨57, _⟩ => ⟨S256x128, .i32⟩
  | .hbm, ⟨58, _⟩ => ⟨S_, .i32⟩
  | .hbm, ⟨59, _⟩ => ⟨S256x128, .i32⟩
  | .hbm, ⟨60, _⟩ => ⟨S256x128, .i1⟩
  | .hbm, ⟨61, _⟩ => ⟨S256x128, .i32⟩
  | .hbm, ⟨62, _⟩ => ⟨S_, .i32⟩
  | .hbm, ⟨63, _⟩ => ⟨S256x128, .i32⟩
  | .hbm, ⟨64, _⟩ => ⟨S256x128, .i1⟩
  | .hbm, ⟨65, _⟩ => ⟨S_, .i32⟩
  | .hbm, ⟨66, _⟩ => ⟨S256x128, .i32⟩
  | .hbm, ⟨67, _⟩ => ⟨S256x128, .i32⟩
  | .hbm, ⟨68, _⟩ => ⟨S256x128, .i32⟩
  | .hbm, ⟨69, _⟩ => ⟨S256x128x1, .i32⟩
  | .hbm, ⟨70, _⟩ => ⟨S256x128x16, .f32⟩
  | .hbm, ⟨71, _⟩ => ⟨S_, .f32⟩
  | .hbm, ⟨72, _⟩ => ⟨S256x128x16, .f32⟩
  | .hbm, ⟨73, _⟩ => ⟨S256x128x16, .f32⟩
  | .hbm, ⟨74, _⟩ => ⟨S256x128x1, .i1⟩
  | .hbm, ⟨75, _⟩ => ⟨S_, .f32⟩
  | .hbm, ⟨76, _⟩ => ⟨S_, .f32⟩
  | .hbm, ⟨77, _⟩ => ⟨S256x128x16, .i1⟩
  | .hbm, ⟨78, _⟩ => ⟨S256x128x16, .f32⟩
  | .hbm, ⟨79, _⟩ => ⟨S256x128x16, .f32⟩
  | .hbm, ⟨80, _⟩ => ⟨S256x128x4x4, .f32⟩
  | .hbm, ⟨81, _⟩ => ⟨S4x256x4x128, .f32⟩
  | .hbm, ⟨82, _⟩ => ⟨S4x256x512, .f32⟩
  | .hbm, ⟨83, _⟩ => ⟨S16, .f32⟩
  | .hbm, ⟨84, _⟩ => ⟨S1x1x1x64, .f32⟩
  | .hbm, ⟨85, _⟩ => ⟨S1x1x4x64, .f32⟩
  | .hbm, ⟨86, _⟩ => ⟨S1x256, .f32⟩
  | .hbm, ⟨87, _⟩ => ⟨S1x1x1x64, .f32⟩
  | .hbm, ⟨88, _⟩ => ⟨S1x1x4x64, .f32⟩
  | .hbm, ⟨89, _⟩ => ⟨S1x256, .f32⟩
  | .hbm, ⟨90, _⟩ => ⟨S8x2048x4096, .bf16⟩
  | .hbm, ⟨91, _⟩ => ⟨S8x2048x1024, .bf16⟩
  | .hbm, ⟨92, _⟩ => ⟨S8x2048x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S16x2048x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S2x1024, .f32⟩
  | .local _ .vmem, ⟨11, _⟩ => ⟨S1x128, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x512, .bf16⟩
  | .local _ .vmem, ⟨15, _⟩ => ⟨S1x256x512, .bf16⟩
  | .local _ .vmem, ⟨16, _⟩ => ⟨S1x128x512, .bf16⟩
  | .local _ .vmem, ⟨17, _⟩ => ⟨S1x128x512, .bf16⟩
  | .local _ .vmem, ⟨18, _⟩ => ⟨S4x256x512, .f32⟩
  | .local _ .vmem, ⟨19, _⟩ => ⟨S1x256, .f32⟩
  | .local _ .vmem, ⟨20, _⟩ => ⟨S1x256, .f32⟩
  | .local _ .vmem, ⟨21, _⟩ => ⟨S1x256x4096, .bf16⟩
  | .local _ .vmem, ⟨22, _⟩ => ⟨S1x256x4096, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S256x2048, .bf16⟩
  | .local _ .vmem, ⟨28, _⟩ => ⟨S8x128x128, .f32⟩
  | .local _ .smem, ⟨0, _⟩ => ⟨S16, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_9 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![arg0.toNat, v2.toNat, c10_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .smem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some ((8⁻¹ * (Real.log 2)⁻¹ : ℝ) : EReal)
  | _ => none
-- ==== ReferenceIdeal.lean ====
abbrev S8x2048x2048 : Shape := ⟨3, ![8, 2048, 2048]⟩
abbrev S8x4096 : Shape := ⟨2, ![8, 4096]⟩
abbrev S1x2048 : Shape := ⟨2, ![1, 2048]⟩
abbrev S1x2048x9728 : Shape := ⟨3, ![1, 2048, 9728]⟩
abbrev S8x2048x5632 : Shape := ⟨3, ![8, 2048, 5632]⟩
abbrev S2x1024 : Shape := ⟨2, ![2, 1024]⟩
abbrev S1x128 : Shape := ⟨2, ![1, 128]⟩
abbrev S1x64 : Shape := ⟨2, ![1, 64]⟩
abbrev S1x16 : Shape := ⟨2, ![1, 16]⟩
abbrev S32x16 : Shape := ⟨2, ![32, 16]⟩
abbrev S8x2048 : Shape := ⟨2, ![8, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S2048x9728 : Shape := ⟨2, ![2048, 9728]⟩
abbrev S2048x4096 : Shape := ⟨2, ![2048, 4096]⟩
abbrev S8x2048x4096 : Shape := ⟨3, ![8, 2048, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x4096, .f32⟩
  | .hbm, ⟨2, _⟩ => ⟨S1x2048, .f32⟩
  | .hbm, ⟨3, _⟩ => ⟨S1x2048x9728, .f32⟩
  | .hbm, ⟨4, _⟩ => ⟨S8x2048x5632, .bf16⟩
  | .hbm, ⟨5, _⟩ => ⟨S2x1024, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S1x16, .f32⟩
  | .hbm, ⟨10, _⟩ => ⟨S32x16, .f32⟩
  | .hbm, ⟨11, _⟩ => ⟨S8x2048, .f32⟩
  | .hbm, ⟨12, _⟩ => ⟨S8x2048, .f32⟩
  | .hbm, ⟨13, _⟩ => ⟨S2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S8x1x2048, .f32⟩
  | .hbm, ⟨31, _⟩ => ⟨S_, .f32⟩
  | .hbm, ⟨32, _⟩ => ⟨S8x1x2048, .f32⟩
  | .hbm, ⟨33, _⟩ => ⟨S8x1x2048, .f32⟩
  | .hbm, ⟨34, _⟩ => ⟨S8x2048x2048, .f32⟩
  | .hbm, ⟨35, _⟩ => ⟨S8x2048x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S2048x9728, .f32⟩
  | .hbm, ⟨40, _⟩ => ⟨S2048x4096, .f32⟩
  | .hbm, ⟨41, _⟩ => ⟨S8x2048x4096, .f32⟩
  | .hbm, ⟨42, _⟩ => ⟨S8x2048x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Ffn.lean ====
abbrev S8x2048x2048 : Shape := ⟨3, ![8, 2048, 2048]⟩
abbrev S8x8192 : Shape := ⟨2, ![8, 8192]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x2048 : Shape := ⟨2, ![8192, 2048]⟩
abbrev S8x4x1x2048 : Shape := ⟨4, ![8, 4, 1, 2048]⟩
abbrev S1x512x2048 : Shape := ⟨3, ![1, 512, 2048]⟩
abbrev S2048x2048 : Shape := ⟨2, ![2048, 2048]⟩
abbrev S1x1x1x2048 : Shape := ⟨4, ![1, 1, 1, 2048]⟩
abbrev S512x2048 : Shape := ⟨2, ![512, 2048]⟩
abbrev S1x2048 : Shape := ⟨2, ![1, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x8192, .f32⟩
  | .hbm, ⟨3, _⟩ => ⟨S1x2048x8192, .f32⟩
  | .hbm, ⟨4, _⟩ => ⟨S1x8192x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S8x4x1x2048, .f32⟩
  | .hbm, ⟨10, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x512x2048, .f32⟩
  | .local _ .vmem, ⟨11, _⟩ => ⟨S1x512x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnReferenceIdeal.lean ====
abbrev S8x2048x2048 : Shape := ⟨3, ![8, 2048, 2048]⟩
abbrev S8x8192 : Shape := ⟨2, ![8, 8192]⟩
abbrev S1x2048x8192 : Shape := ⟨3, ![1, 2048, 8192]⟩
abbrev S1x8192x2048 : Shape := ⟨3, ![1, 8192, 2048]⟩
abbrev S8x2048 : Shape := ⟨2, ![8, 2048]⟩
abbrev S2048x8192 : Shape := ⟨2, ![2048, 8192]⟩
abbrev S8x2048x8192 : Shape := ⟨3, ![8, 2048, 8192]⟩
abbrev S_ : Shape := ⟨0, ![]⟩
abbrev S8192x2048 : Shape := ⟨2, ![8192, 2048]⟩
abbrev S8x1x2048 : Shape := ⟨3, ![8, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x8192, .f32⟩
  | .hbm, ⟨3, _⟩ => ⟨S1x2048x8192, .f32⟩
  | .hbm, ⟨4, _⟩ => ⟨S1x8192x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048x2048, .f32⟩
  | .hbm, ⟨10, _⟩ => ⟨S2048x8192, .f32⟩
  | .hbm, ⟨11, _⟩ => ⟨S8x2048x8192, .f32⟩
  | .hbm, ⟨12, _⟩ => ⟨S_, .f32⟩
  | .hbm, ⟨13, _⟩ => ⟨S8x2048x8192, .f32⟩
  | .hbm, ⟨14, _⟩ => ⟨S8x2048x8192, .f32⟩
  | .hbm, ⟨15, _⟩ => ⟨S8x2048x8192, .f32⟩
  | .hbm, ⟨16, _⟩ => ⟨S8192x2048, .f32⟩
  | .hbm, ⟨17, _⟩ => ⟨S8x2048x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Merge.lean ====
abbrev S8x2048x2048 : Shape := ⟨3, ![8, 2048, 2048]⟩
abbrev S8x2048x1024 : Shape := ⟨3, ![8, 2048, 1024]⟩
abbrev S8x2048x4096 : Shape := ⟨3, ![8, 2048, 4096]⟩
abbrev S1x1024x2048 : Shape := ⟨3, ![1, 1024, 2048]⟩
abbrev S1x2048x2048 : Shape := ⟨3, ![1, 2048, 2048]⟩
abbrev S8x8192 : Shape := ⟨2, ![8, 8192]⟩
abbrev S1x2048 : Shape := ⟨2, ![1, 2048]⟩
abbrev S1024x2048 : Shape := ⟨2, ![1024, 2048]⟩
abbrev S2048x2048 : Shape := ⟨2, ![2048, 2048]⟩
abbrev S8x4x1x2048 : Shape := ⟨4, ![8, 4, 1, 2048]⟩
abbrev S1x512x2048 : Shape := ⟨3, ![1, 512, 2048]⟩
abbrev S1x512x1024 : Shape := ⟨3, ![1, 512, 1024]⟩
abbrev S1x512x4096 : Shape := ⟨3, ![1, 512, 4096]⟩
abbrev S1x1x1x2048 : Shape := ⟨4, ![1, 1, 1, 2048]⟩
abbrev S1x256x1024 : Shape := ⟨3, ![1, 256, 1024]⟩
abbrev S256x1024 : Shape := ⟨2, ![256, 1024]⟩
abbrev S256x2048 : Shape := ⟨2, ![256, 2048]⟩
abbrev S512x2048 : Shape := ⟨2, ![512, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S8x8192, .f32⟩
  | .hbm, ⟨8, _⟩ => ⟨S1x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S8x4x1x2048, .f32⟩
  | .hbm, ⟨16, _⟩ => ⟨S8x2048x2048, .f32⟩
  | .hbm, ⟨17, _⟩ => ⟨S8x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x4096, .bf16⟩
  | .local _ .vmem, ⟨7, _⟩ => ⟨S1x512x4096, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x1x1x2048, .f32⟩
  | .local _ .vmem, ⟨12, _⟩ => ⟨S1x1x1x2048, .f32⟩
  | .local _ .vmem, ⟨13, _⟩ => ⟨S1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x512x2048, .f32⟩
  | .local _ .vmem, ⟨19, _⟩ => ⟨S1x512x2048, .f32⟩
  | .local _ .vmem, ⟨20, _⟩ => ⟨S1x512x2048, .bf16⟩
  | .local _ .vmem, ⟨21, _⟩ => ⟨S1x512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S8x2048x2048 : Shape := ⟨3, ![8, 2048, 2048]⟩
abbrev S8x2048x1024 : Shape := ⟨3, ![8, 2048, 1024]⟩
abbrev S8x2048x4096 : Shape := ⟨3, ![8, 2048, 4096]⟩
abbrev S1x1024x2048 : Shape := ⟨3, ![1, 1024, 2048]⟩
abbrev S1x2048x2048 : Shape := ⟨3, ![1, 2048, 2048]⟩
abbrev S8x8192 : Shape := ⟨2, ![8, 8192]⟩
abbrev S1x2048 : Shape := ⟨2, ![1, 2048]⟩
abbrev S8x2048 : Shape := ⟨2, ![8, 2048]⟩
abbrev S_ : Shape := ⟨0, ![]⟩
abbrev S1024x2048 : Shape := ⟨2, ![1024, 2048]⟩
abbrev S8x1x2048 : Shape := ⟨3, ![8, 1, 2048]⟩
abbrev S2048x2048 : Shape := ⟨2, ![2048, 2048]⟩
abbrev S2048 : Shape := ⟨1, ![2048]⟩
abbrev S8x2048x1 : Shape := ⟨3, ![8, 2048, 1]⟩
abbrev S1x1x2048 : Shape := ⟨3, ![1, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S8x8192, .f32⟩
  | .hbm, ⟨8, _⟩ => ⟨S1x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048x4096, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x1024, .f32⟩
  | .hbm, ⟨25, _⟩ => ⟨S1024x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x1024, .f32⟩
  | .hbm, ⟨37, _⟩ => ⟨S1024x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x1x2048, .f32⟩
  | .hbm, ⟨42, _⟩ => ⟨S2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S1x1x2048, .f32⟩
  | .hbm, ⟨62, _⟩ => ⟨S8x2048x2048, .f32⟩
  | .hbm, ⟨63, _⟩ => ⟨S8x2048x2048, .f32⟩
  | .hbm, ⟨64, _⟩ => ⟨S8x1x2048, .f32⟩
  | .hbm, ⟨65, _⟩ => ⟨S_, .f32⟩
  | .hbm, ⟨66, _⟩ => ⟨S8x1x2048, .f32⟩
  | .hbm, ⟨67, _⟩ => ⟨S8x1x2048, .f32⟩
  | .hbm, ⟨68, _⟩ => ⟨S8x2048x2048, .f32⟩
  | .hbm, ⟨69, _⟩ => ⟨S8x2048x2048, .f32⟩
  | .hbm, ⟨70, _⟩ => ⟨S8x1x2048, .f32⟩
  | .hbm, ⟨71, _⟩ => ⟨S8x2048x2048, .f32⟩
  | .hbm, ⟨72, _⟩ => ⟨S8x2048x2048, .f32⟩
  | .hbm, ⟨73, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Inproj.lean ====
abbrev S8x2048x2048 : Shape := ⟨3, ![8, 2048, 2048]⟩
abbrev S8x2048 : Shape := ⟨2, ![8, 2048]⟩
abbrev S8x4096 : Shape := ⟨2, ![8, 4096]⟩
abbrev S1x2048 : Shape := ⟨2, ![1, 2048]⟩
abbrev S1x2048x9728 : Shape := ⟨3, ![1, 2048, 9728]⟩
abbrev S1x2048x12288 : Shape := ⟨3, ![1, 2048, 12288]⟩
abbrev S1x12288 : Shape := ⟨2, ![1, 12288]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S8x2x1x2048 : Shape := ⟨4, ![8, 2, 1, 2048]⟩
abbrev S1x2048x5632 : Shape := ⟨3, ![1, 2048, 5632]⟩
abbrev S2048x5632 : Shape := ⟨2, ![2048, 5632]⟩
abbrev S8x2048x5632 : Shape := ⟨3, ![8, 2048, 5632]⟩
abbrev S8x8192 : Shape := ⟨2, ![8, 8192]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩
abbrev S1x512x2048 : Shape := ⟨3, ![1, 512, 2048]⟩
abbrev S1x1x1x2048 : Shape := ⟨4, ![1, 1, 1, 2048]⟩
abbrev S2048x2816 : Shape := ⟨2, ![2048, 2816]⟩
abbrev S1x2048x128 : Shape := ⟨3, ![1, 2048, 128]⟩
abbrev S1x128 : Shape := ⟨2, ![1, 128]⟩
abbrev S1x16x2048 : Shape := ⟨3, ![1, 16, 2048]⟩
abbrev S1x32x2048 : Shape := ⟨3, ![1, 32, 2048]⟩
abbrev S1x32x8192 : Shape := ⟨3, ![1, 32, 8192]⟩
abbrev S1x128x2048 : Shape := ⟨3, ![1, 128, 2048]⟩
abbrev S1x512x2816 : Shape := ⟨3, ![1, 512, 2816]⟩
abbrev S8x128 : Shape := ⟨2, ![8, 128]⟩
abbrev S16x2048 : Shape := ⟨2, ![16, 2048]⟩
abbrev S32x2048 : Shape := ⟨2, ![32, 2048]⟩
abbrev S32x8192 : Shape := ⟨2, ![32, 8192]⟩
abbrev S128x2048 : Shape := ⟨2, ![128, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩
abbrev S2048x128 : Shape := ⟨2, ![2048, 128]⟩

abbrev nBuf : Space → Nat
  | .hbm => 23
  | .vmem => 38
  | .smem => 0
  | _ => 0

abbrev bufTy : (tb : Table) → Fin (tcTables nBuf tb) → BufTy
  | .hbm, ⟨0, _⟩ => ⟨S8x2048x2048, .f32⟩
  | .hbm, ⟨1, _⟩ => ⟨S8x2048, .f32⟩
  | .hbm, ⟨2, _⟩ => ⟨S8x4096, .f32⟩
  | .hbm, ⟨3, _⟩ => ⟨S1x2048, .f32⟩
  | .hbm, ⟨4, _⟩ => ⟨S1x2048x9728, .f32⟩
  | .hbm, ⟨5, _⟩ => ⟨S1x2048x12288, .f32⟩
  | .hbm, ⟨6, _⟩ => ⟨S1x12288, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048x8192, .f32⟩
  | .hbm, ⟨11, _⟩ => ⟨S1x8192x2048, .f32⟩
  | .hbm, ⟨12, _⟩ => ⟨S8x2x1x2048, .f32⟩
  | .hbm, ⟨13, _⟩ => ⟨S1x2048x5632, .f32⟩
  | .hbm, ⟨14, _⟩ => ⟨S2048x5632, .f32⟩
  | .hbm, ⟨15, _⟩ => ⟨S2048x5632, .bf16⟩
  | .hbm, ⟨16, _⟩ => ⟨S8x2048x5632, .bf16⟩
  | .hbm, ⟨17, _⟩ => ⟨S8x8192, .f32⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S2048x8192, .bf16⟩
  | .hbm, ⟨22, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x2816, .bf16⟩
  | .local _ .vmem, ⟨8, _⟩ => ⟨S2048x2816, .bf16⟩
  | .local _ .vmem, ⟨9, _⟩ => ⟨S8x2048, .f32⟩
  | .local _ .vmem, ⟨10, _⟩ => ⟨S1x2048x128, .f32⟩
  | .local _ .vmem, ⟨11, _⟩ => ⟨S1x2048x128, .f32⟩
  | .local _ .vmem, ⟨12, _⟩ => ⟨S1x128, .f32⟩
  | .local _ .vmem, ⟨13, _⟩ => ⟨S1x128, .f32⟩
  | .local _ .vmem, ⟨14, _⟩ => ⟨S1x16x2048, .f32⟩
  | .local _ .vmem, ⟨15, _⟩ => ⟨S1x16x2048, .f32⟩
  | .local _ .vmem, ⟨16, _⟩ => ⟨S1x16x2048, .f32⟩
  | .local _ .vmem, ⟨17, _⟩ => ⟨S1x16x2048, .f32⟩
  | .local _ .vmem, ⟨18, _⟩ => ⟨S1x32x2048, .f32⟩
  | .local _ .vmem, ⟨19, _⟩ => ⟨S1x32x2048, .f32⟩
  | .local _ .vmem, ⟨20, _⟩ => ⟨S1x32x8192, .f32⟩
  | .local _ .vmem, ⟨21, _⟩ => ⟨S1x32x8192, .f32⟩
  | .local _ .vmem, ⟨22, _⟩ => ⟨S1x128x2048, .f32⟩
  | .local _ .vmem, ⟨23, _⟩ => ⟨S1x128x2048, .f32⟩
  | .local _ .vmem, ⟨24, _⟩ => ⟨S1x512x2816, .bf16⟩
  | .local _ .vmem, ⟨25, _⟩ => ⟨S1x512x2816, .bf16⟩
  | .local _ .vmem, ⟨26, _⟩ => ⟨S8x128, .f32⟩
  | .local _ .vmem, ⟨27, _⟩ => ⟨S8x128, .f32⟩
  | .local _ .vmem, ⟨28, _⟩ => ⟨S16x2048, .bf16⟩
  | .local _ .vmem, ⟨29, _⟩ => ⟨S16x2048, .bf16⟩
  | .local _ .vmem, ⟨30, _⟩ => ⟨S16x2048, .bf16⟩
  | .local _ .vmem, ⟨31, _⟩ => ⟨S16x2048, .bf16⟩
  | .local _ .vmem, ⟨32, _⟩ => ⟨S32x2048, .bf16⟩
  | .local _ .vmem, ⟨33, _⟩ => ⟨S32x2048, .bf16⟩
  | .local _ .vmem, ⟨34, _⟩ => ⟨S32x8192, .bf16⟩
  | .local _ .vmem, ⟨35, _⟩ => ⟨S32x8192, .bf16⟩
  | .local _ .vmem, ⟨36, _⟩ => ⟨S128x2048, .bf16⟩
  | .local _ .vmem, ⟨37, _⟩ => ⟨S128x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.addi c32_i32_0 v1
  let c0_i32 : BitVec 32 := 0#32
  let c0_i32_1 : BitVec 32 := 0#32
  let c0_i32_2 : BitVec 32 := 0#32
  ![c0_i32.toNat, c0_i32_1.toNat, v2.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let v2 : BitVec 32 := Scalar.addi c32_i32_0 v1
  let c0_i32 : BitVec 32 := 0#32
  let c0_i32_1 : BitVec 32 := 0#32
  ![c0_i32.toNat, v2.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x8192 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InprojReferenceIdeal.lean ====
abbrev S8x2048x2048 : Shape := ⟨3, ![8, 2048, 2048]⟩
abbrev S8x2048 : Shape := ⟨2, ![8, 2048]⟩
abbrev S8x4096 : Shape := ⟨2, ![8, 4096]⟩
abbrev S1x2048 : Shape := ⟨2, ![1, 2048]⟩
abbrev S1x2048x9728 : Shape := ⟨3, ![1, 2048, 9728]⟩
abbrev S1x2048x12288 : Shape := ⟨3, ![1, 2048, 12288]⟩
abbrev S1x12288 : Shape := ⟨2, ![1, 12288]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S2048x9728 : Shape := ⟨2, ![2048, 9728]⟩
abbrev S2048x5632 : Shape := ⟨2, ![2048, 5632]⟩
abbrev S8x2048x5632 : Shape := ⟨3, ![8, 2048, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048, .f32⟩
  | .hbm, ⟨2, _⟩ => ⟨S8x4096, .f32⟩
  | .hbm, ⟨3, _⟩ => ⟨S1x2048, .f32⟩
  | .hbm, ⟨4, _⟩ => ⟨S1x2048x9728, .f32⟩
  | .hbm, ⟨5, _⟩ => ⟨S1x2048x12288, .f32⟩
  | .hbm, ⟨6, _⟩ => ⟨S1x12288, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048x8192, .f32⟩
  | .hbm, ⟨11, _⟩ => ⟨S1x8192x2048, .f32⟩
  | .hbm, ⟨12, _⟩ => ⟨S8x2048, .f32⟩
  | .hbm, ⟨13, _⟩ => ⟨S8x2048, .f32⟩
  | .hbm, ⟨14, _⟩ => ⟨S2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x1x2048, .f32⟩
  | .hbm, ⟨38, _⟩ => ⟨S8x2048x2048, .f32⟩
  | .hbm, ⟨39, _⟩ => ⟨S8x2048x2048, .f32⟩
  | .hbm, ⟨40, _⟩ => ⟨S2048x9728, .f32⟩
  | .hbm, ⟨41, _⟩ => ⟨S2048x5632, .f32⟩
  | .hbm, ⟨42, _⟩ => ⟨S8x2048x5632, .f32⟩
  | .hbm, ⟨43, _⟩ => ⟨S8x2048x5632, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Spec.lean ====
/- The gates, element by element, over the argument arrays. -/
module

public import Idealize.ShloMosaic.Lib.Pointwise

@[expose] public section

noncomputable section

namespace Cert.Spec

open Idealize.ShloMosaic

/-- The normed, scaled and shifted input at row `l` of sequence `b`, lane `k`. -/
def normE (x : FVec Ideal ⟨3, ![8, 2048, 2048]⟩ .f32) (ada : FVec Ideal ⟨2, ![8, 4096]⟩ .f32) (g : FVec Ideal ⟨2, ![1, 2048]⟩ .f32)
    (b : Fin 8) (l k : Fin 2048) : EReal :=
  x (ix3 b l k) * Ideal.rsqrt (Ideal.div (∑ j : Fin 2048, x (ix3 b l j) * x (ix3 b l j)) (Ideal.ofBits .f32 0x45000000#32)
      + Ideal.ofBits .f32 0x358637BD#32) * g (ix2 (0 : Fin 1) k) * (1 + ada (ix2 b (⟨2048 + k.val, by omega⟩ : Fin 4096)))
    + ada (ix2 b (⟨k.val, by omega⟩ : Fin 4096))
/-- The gate at lane `n`. -/
def gateE (x : FVec Ideal ⟨3, ![8, 2048, 2048]⟩ .f32) (ada : FVec Ideal ⟨2, ![8, 4096]⟩ .f32) (g : FVec Ideal ⟨2, ![1, 2048]⟩ .f32)
    (w : FVec Ideal ⟨3, ![1, 2048, 9728]⟩ .f32) (b : Fin 8) (l : Fin 2048) (n : Fin 4096) : EReal :=
  ∑ k : Fin 2048, normE x ada g b l k * w (ix3 (0 : Fin 1) k (⟨5632 + n.val, by omega⟩ : Fin 9728))
/-- The array of the gates. -/
def gates (x : FVec Ideal ⟨3, ![8, 2048, 2048]⟩ .f32) (ada : FVec Ideal ⟨2, ![8, 4096]⟩ .f32) (g : FVec Ideal ⟨2, ![1, 2048]⟩ .f32)
    (w : FVec Ideal ⟨3, ![1, 2048, 9728]⟩ .f32) : FVec Ideal ⟨3, ![8, 2048, 4096]⟩ .bf16 := fun i =>
  gateE x ada g w (i 0) (i 1) (i 2)

/-- The combined projection's first 5632 columns. -/
def proj (x : FVec Ideal ⟨3, ![8, 2048, 2048]⟩ .f32) (ada : FVec Ideal ⟨2, ![8, 4096]⟩ .f32) (g : FVec Ideal ⟨2, ![1, 2048]⟩ .f32)
    (w : FVec Ideal ⟨3, ![1, 2048, 9728]⟩ .f32) : FVec Ideal ⟨3, ![8, 2048, 5632]⟩ .bf16 := fun i =>
  ∑ k : Fin 2048, normE x ada g (i 0) (i 1) k * w (ix3 (0 : Fin 1) k (⟨(i 2).val, Nat.lt_of_lt_of_le (i 2).isLt (by decide)⟩ : Fin 9728))

/-- The merged branches at row `l` of sequence `b`, lane `n`. -/
def mergedE (oh oa : FVec Ideal ⟨3, ![8, 2048, 1024]⟩ .bf16) (gt : FVec Ideal ⟨3, ![8, 2048, 4096]⟩ .bf16)
    (wh wa : FVec Ideal ⟨3, ![1, 1024, 2048]⟩ .f32) (b : Fin 8) (l n : Fin 2048) : EReal :=
  Ideal.logistic (gt (ix3 b l (⟨n.val, by omega⟩ : Fin 4096))) * (∑ k : Fin 1024, oh (ix3 b l k) * wh (ix3 (0 : Fin 1) k n))
    + Ideal.logistic (gt (ix3 b l (⟨2048 + n.val, by omega⟩ : Fin 4096))) * (∑ k : Fin 1024, oa (ix3 b l k) * wa (ix3 (0 : Fin 1) k n))
/-- The residual stream after the mixer. -/
def x1E (x : FVec Ideal ⟨3, ![8, 2048, 2048]⟩ .f32) (oh oa : FVec Ideal ⟨3, ![8, 2048, 1024]⟩ .bf16) (gt : FVec Ideal ⟨3, ![8, 2048, 4096]⟩ .bf16)
    (wh wa : FVec Ideal ⟨3, ![1, 1024, 2048]⟩ .f32) (wo : FVec Ideal ⟨3, ![1, 2048, 2048]⟩ .f32) (ada : FVec Ideal ⟨2, ![8, 8192]⟩ .f32)
    (b : Fin 8) (l n : Fin 2048) : EReal :=
  x (ix3 b l n) + ada (ix2 b (⟨n.val, by omega⟩ : Fin 8192)) * ∑ k : Fin 2048, mergedE oh oa gt wh wa b l k * wo (ix3 (0 : Fin 1) k n)
/-- A row `u` normed, scaled and shifted by the third and second quarter of `ada`. -/
def norm2E (u : Fin 2048 → EReal) (ada : FVec Ideal ⟨2, ![8, 8192]⟩ .f32) (g : FVec Ideal ⟨2, ![1, 2048]⟩ .f32) (b : Fin 8) (n : Fin 2048) : EReal :=
  u n * Ideal.rsqrt (Ideal.div (∑ j : Fin 2048, u j * u j) (Ideal.ofBits .f32 0x45000000#32) + Ideal.ofBits .f32 0x358637BD#32) * g (ix2 (0 : Fin 1) n)
      * (1 + ada (ix2 b (⟨4096 + n.val, by omega⟩ : Fin 8192))) + ada (ix2 b (⟨2048 + n.val, by omega⟩ : Fin 8192))
/-- The merge's two arrays. -/
def x1 (x : FVec Ideal ⟨3, ![8, 2048, 2048]⟩ .f32) (oh oa : FVec Ideal ⟨3, ![8, 2048, 1024]⟩ .bf16) (gt : FVec Ideal ⟨3, ![8, 2048, 4096]⟩ .bf16)
    (wh wa : FVec Ideal ⟨3, ![1, 1024, 2048]⟩ .f32) (wo : FVec Ideal ⟨3, ![1, 2048, 2048]⟩ .f32) (ada : FVec Ideal ⟨2, ![8, 8192]⟩ .f32) :
    FVec Ideal ⟨3, ![8, 2048, 2048]⟩ .f32 := fun i => x1E x oh oa gt wh wa wo ada (i 0) (i 1) (i 2)
def h2 (x : FVec Ideal ⟨3, ![8, 2048, 2048]⟩ .f32) (oh oa : FVec Ideal ⟨3, ![8, 2048, 1024]⟩ .bf16) (gt : FVec Ideal ⟨3, ![8, 2048, 4096]⟩ .bf16)
    (wh wa : FVec Ideal ⟨3, ![1, 1024, 2048]⟩ .f32) (wo : FVec Ideal ⟨3, ![1, 2048, 2048]⟩ .f32) (ada : FVec Ideal ⟨2, ![8, 8192]⟩ .f32)
    (g : FVec Ideal ⟨2, ![1, 2048]⟩ .f32) : FVec Ideal ⟨3, ![8, 2048, 2048]⟩ .bf16 := fun i =>
  norm2E (fun n => x1E x oh oa gt wh wa wo ada (i 0) (i 1) n) ada g (i 0) (i 2)

/-- One lane of the hidden layer. -/
def hidE (h : FVec Ideal ⟨3, ![8, 2048, 2048]⟩ .bf16) (w1 : FVec Ideal ⟨3, ![1, 2048, 8192]⟩ .f32) (b : Fin 8) (l : Fin 2048) (f : Fin 8192) : EReal :=
  max (∑ k : Fin 2048, h (ix3 b l k) * w1 (ix3 (0 : Fin 1) k f)) 0
/-- The feed-forward part. -/
def ffn (h : FVec Ideal ⟨3, ![8, 2048, 2048]⟩ .bf16) (x1 : FVec Ideal ⟨3, ![8, 2048, 2048]⟩ .f32) (ada : FVec Ideal ⟨2, ![8, 8192]⟩ .f32)
    (w1 : FVec Ideal ⟨3, ![1, 2048, 8192]⟩ .f32) (w2 : FVec Ideal ⟨3, ![1, 8192, 2048]⟩ .f32) : FVec Ideal ⟨3, ![8, 2048, 2048]⟩ .f32 := fun i =>
  x1 (ix3 (i 0 : Fin 8) (i 1 : Fin 2048) (i 2 : Fin 2048)) + ada (ix2 (i 0 : Fin 8) (⟨6144 + (i 2).val, Nat.add_lt_add_left (i 2).isLt 6144⟩ : Fin 8192))
    * ∑ f : Fin 8192, hidE h w1 (i 0) (i 1) f * hidE h w1 (i 0) (i 1) f * w2 (ix3 (0 : Fin 1) f (i 2 : Fin 2048))

end Cert.Spec

end
-- ==== Proof.Finite.lean ====
/- Sums of finite terms, and what the precondition gives. -/
module

public import proofs.«01_k».proof.Proof.Spec
public import proofs.«01_k».proof.Defs
public import Idealize.ShloMosaic.Lib.ReduceAll
public import Idealize.ShloMosaic.Lib.Affine
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.Finite

open Idealize.ShloMosaic

/-- An extended real that is a real number. -/
def Fin' (e : EReal) : Prop := ∃ r : ℝ, e = (r : EReal)

theorem mul {a b : EReal} (ha : Fin' a) (hb : Fin' b) : Fin' (a * b) := by
  obtain ⟨x, rfl⟩ := ha; obtain ⟨y, rfl⟩ := hb; exact ⟨x * y, (EReal.coe_mul x y).symm⟩
theorem add {a b : EReal} (ha : Fin' a) (hb : Fin' b) : Fin' (a + b) := by
  obtain ⟨x, rfl⟩ := ha; obtain ⟨y, rfl⟩ := hb; exact ⟨x + y, (EReal.coe_add x y).symm⟩
theorem max0 {a : EReal} (ha : Fin' a) : Fin' (max a 0) := by
  rcases le_total a 0 with h | h
  · rw [max_eq_right h]; exact ⟨0, rfl⟩
  · rw [max_eq_left h]; exact ha
theorem sum {n : Nat} (f : Fin n → EReal) (hf : ∀ i, Fin' (f i)) : Fin' (∑ i, f i) := by
  choose g hg using hf
  refine ⟨∑ i, g i, ?_⟩
  rw [show f = fun i => ((g i : ℝ) : EReal) from funext hg]
  exact (map_sum (⟨⟨Real.toEReal, EReal.coe_zero⟩, EReal.coe_add⟩ : ℝ →+ EReal) g Finset.univ).symm

/-- A finite factor comes out of the four partial sums. -/
theorem four {x g a b c d : EReal} (hg : Fin' g) (ha : Fin' a) (hb : Fin' b) (hc : Fin' c) (hd : Fin' d) :
    x + g * a + g * b + g * c + g * d = x + g * (a + b + c + d) := by
  obtain ⟨g, rfl⟩ := hg; obtain ⟨a, rfl⟩ := ha; obtain ⟨b, rfl⟩ := hb; obtain ⟨c, rfl⟩ := hc; obtain ⟨d, rfl⟩ := hd
  rw [add_assoc, add_assoc, add_assoc]
  refine congrArg (x + ·) ?_
  rw [← EReal.coe_mul, ← EReal.coe_mul, ← EReal.coe_mul, ← EReal.coe_mul, ← EReal.coe_add, ← EReal.coe_add, ← EReal.coe_add,
    ← EReal.coe_add, ← EReal.coe_add, ← EReal.coe_add, ← EReal.coe_mul]
  exact congrArg _ (by ring)

/-- What lies below infinity in absolute value is a real number. -/
theorem of_abs {a : EReal} (h : max a (-a) < ⊤) : Fin' a := by
  induction a using EReal.rec with
  | bot => exact absurd h (by simp)
  | coe r => exact ⟨r, rfl⟩
  | top => exact absurd h (by simp)

theorem of_cmp {a : EReal} (h : Ideal.cmp .olt (max a (-a)) (Ideal.ofBits .f32 0x7F800000#32) = 1#1) : Fin' a := by
  have e : Ideal.ofBits .f32 0x7F800000#32 = ⊤ := by simp [Ideal.ofBits, Ideal.ieee]
  rw [e] at h
  refine of_abs ?_
  by_contra hn
  simp [Ideal.cmp, hn] at h

section
variable [hPre : Cert.Pre_finite.Facts]
open Cert.Pre_finite

theorem of_pre (a0 : FVec Ideal ⟨3, ![8, 2048, 2048]⟩ .bf16) (a1 : FVec Ideal ⟨3, ![8, 2048, 2048]⟩ .f32) (a2 : FVec Ideal ⟨2, ![8, 8192]⟩ .f32)
    (a3 : FVec Ideal ⟨3, ![1, 2048, 8192]⟩ .f32) (a4 : FVec Ideal ⟨3, ![1, 8192, 2048]⟩ .f32)
    (h : Cert.Pre_finite.fn (F := Ideal) a0 a1 a2 a3 a4 = fun _ => 1#1) :
    (∀ i, Fin' (a0 i)) ∧ (∀ i, Fin' (a2 i)) ∧ (∀ i, Fin' (a3 i)) ∧ (∀ i, Fin' (a4 i)) := by
  have hj := congrFun h (fun a => a.elim0)
  dsimp only [fn, fn_part1] at hj
  obtain ⟨hj, h4⟩ := IntOp.andi_eq_one.1 hj
  obtain ⟨hj, h3⟩ := IntOp.andi_eq_one.1 hj
  obtain ⟨h0, h2⟩ := IntOp.andi_eq_one.1 hj
  exact ⟨fun i => of_cmp (Host.reduce_andi_all _ _ _ _ _ h0 i), fun i => of_cmp (Host.reduce_andi_all _ _ _ _ _ h2 i),
    fun i => of_cmp (Host.reduce_andi_all _ _ _ _ _ h3 i), fun i => of_cmp (Host.reduce_andi_all _ _ _ _ _ h4 i)⟩

end
end Cert.Finite

end
-- ==== Proof.Gates.lean ====
/- The kernel's gates: sixteen stores of 256 lanes to a tile, each the normed input against a quarter of a
   column block of the weights. -/
module

public import proofs.«01_k».proof.Proof.Spec
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.Gates

open Idealize.ShloMosaic Idealize.SL.Sem Cert.KernelIdeal Cert.KernelIdeal.Gen

variable (m : (ℓ : Loc nD τ sig) → Buf (Elt Ideal) ℓ)

/-- A block of the gate's weights. -/
def wBlk (W : S16x2048x256.Idx → Elt Ideal .bf16) (k : Nat) (h : ∀ a, (![k, 0, 0] : Fin 3 → Nat) a + S1x2048x256.size a ≤ S16x2048x256.size a) :
    FVec Ideal S1x2048x256 .bf16 := View.ld W (Rect.unit (s := S16x2048x256) ![k, 0, 0] S1x2048x256.size h)
/-- One store of the gates. -/
def gBlk (X : FVec Ideal S1x256x2048 .f32) (g : FVec Ideal S1x2048 .f32) (sc sh : FVec Ideal S1x1x1x2048 .f32)
    (W : FVec Ideal S1x2048x256 .bf16) : FVec Ideal S1x256x256 .bf16 := k0_pay66 (F := Ideal) (k0_pay3 (F := Ideal) X g sc sh) W
/-- The tile of the gates. -/
def gTile (X : FVec Ideal S1x256x2048 .f32) (g : FVec Ideal S1x2048 .f32) (sc sh : FVec Ideal S1x1x1x2048 .f32)
    (W : FVec Ideal S16x2048x256 .bf16) (r : Fin 256) (n : Fin 4096) : EReal :=
  ∑ k : Fin 2048, (X (ix3 0 r k) * Ideal.rsqrt (Ideal.div (∑ j : Fin 2048, X (ix3 0 r j) * X (ix3 0 r j)) (Ideal.ofBits .f32 0x45000000#32)
      + Ideal.ofBits .f32 0x358637BD#32) * g (ix2 0 k) * (1 + sc (ix4 0 0 0 k)) + sh (ix4 0 0 0 k))
    * W (ix3 (⟨n.val / 256, by omega⟩ : Fin 16) k (⟨n.val % 256, by omega⟩ : Fin 256))

theorem wBlk_at (W : FVec Ideal S16x2048x256 .bf16) (k : Nat) (hk : k < 16) (h) (r : Fin 2048) (n : Fin 256) :
    wBlk W k h (ix3 0 r n) = W (ix3 (⟨k, hk⟩ : Fin 16) r n) := by
  unfold wBlk
  pointwise
  all_goals blk_ext

theorem gBlk_at (X : FVec Ideal S1x256x2048 .f32) (g : FVec Ideal S1x2048 .f32) (sc sh : FVec Ideal S1x1x1x2048 .f32)
    (W : FVec Ideal S1x2048x256 .bf16) (r : Fin 256) (n : Fin 256) : gBlk X g sc sh W (ix3 0 r n) =
  ∑ k : Fin 2048, (X (ix3 0 r k) * Ideal.rsqrt (Ideal.div (∑ j : Fin 2048, X (ix3 0 r j) * X (ix3 0 r j)) (Ideal.ofBits .f32 0x45000000#32)
      + Ideal.ofBits .f32 0x358637BD#32) * g (ix2 0 k) * (1 + sc (ix4 0 0 0 k)) + sh (ix4 0 0 0 k)) * W (ix3 0 k n) := by
  pointwise [gBlk, k0_pay66, k0_pay3]

theorem gTile_at (X : FVec Ideal S1x256x2048 .f32) (g : FVec Ideal S1x2048 .f32) (sc sh : FVec Ideal S1x1x1x2048 .f32)
    (W : FVec Ideal S16x2048x256 .bf16) (k : Nat) (hk : k < 16) (h) (y : S1x256x4096.Idx) (x : S1x256x256.Idx)
    (h1 : (y 1).val = (x 1).val) (h2 : (y 2).val = 256 * k + (x 2).val) :
    gBlk X g sc sh (wBlk W k h) x = gTile X g sc sh W (y 1) (y 2) := by
  have x0 : (x 0).val < 1 := (x 0).isLt
  have x2 : (x 2).val < 256 := (x 2).isLt
  have ex : x = ix3 (0 : Fin 1) (y 1 : Fin 256) (⟨(y 2).val % 256, by omega⟩ : Fin 256) := by
    funext a
    match a with
    | ⟨0, _⟩ => exact Fin.ext (show (x 0).val = 0 by omega)
    | ⟨1, _⟩ => exact Fin.ext h1.symm
    | ⟨2, _⟩ => exact Fin.ext (show (x 2).val = (y 2).val % 256 by omega)
  rw [ex]
  refine (gBlk_at X g sc sh _ _ _).trans ?_
  unfold gTile
  refine Finset.sum_congr rfl fun j _ => congrArg _ ?_
  refine (wBlk_at W k hk h j _).trans (congrArg W ?_)
  have y2 : (y 2).val < 4096 := (y 2).isLt
  have e : (⟨k, hk⟩ : Fin 16) = ⟨(y 2).val / 256, by omega⟩ := Fin.ext (by show k = (y 2).val / 256; omega)
  rw [e]

theorem tileA (c : Dev nD) (t : Fin cfg0.N) (h : t.val % 8 = 0) (y : S1x256x4096.Idx) :
    (outsAt0 m c t.val t.isLt).1 y = gTile (iblk m c 0 t) (iblk m c 1 t) (iblk m c 3 t) (iblk m c 2 t) (iblk m c 4 t) (y 1) (y 2) := by
  rw [outsAt0_A m c t h]; frame_out
  canon_tiles x hx
  case piece0 => exact Eq.trans (b := gBlk (iblk m c 0 t) (iblk m c 1 t) (iblk m c 3 t) (iblk m c 2 t) (wBlk (iblk m c 4 t) 15 inb_S16x2048x256_S1x2048x256_15_0_0) x) (by sl_kernel_rfl) (gTile_at _ _ _ _ _ 15 (by decide) _ y x (by omega) (by omega))
  case piece1 => exact Eq.trans (b := gBlk (iblk m c 0 t) (iblk m c 1 t) (iblk m c 3 t) (iblk m c 2 t) (wBlk (iblk m c 4 t) 14 inb_S16x2048x256_S1x2048x256_14_0_0) x) (by sl_kernel_rfl) (gTile_at _ _ _ _ _ 14 (by decide) _ y x (by omega) (by omega))
  case piece2 => exact Eq.trans (b := gBlk (iblk m c 0 t) (iblk m c 1 t) (iblk m c 3 t) (iblk m c 2 t) (wBlk (iblk m c 4 t) 13 inb_S16x2048x256_S1x2048x256_13_0_0) x) (by sl_kernel_rfl) (gTile_at _ _ _ _ _ 13 (by decide) _ y x (by omega) (by omega))
  case piece3 => exact Eq.trans (b := gBlk (iblk m c 0 t) (iblk m c 1 t) (iblk m c 3 t) (iblk m c 2 t) (wBlk (iblk m c 4 t) 12 inb_S16x2048x256_S1x2048x256_12_0_0) x) (by sl_kernel_rfl) (gTile_at _ _ _ _ _ 12 (by decide) _ y x (by omega) (by omega))
  case piece4 => exact Eq.trans (b := gBlk (iblk m c 0 t) (iblk m c 1 t) (iblk m c 3 t) (iblk m c 2 t) (wBlk (iblk m c 4 t) 11 inb_S16x2048x256_S1x2048x256_11_0_0) x) (by sl_kernel_rfl) (gTile_at _ _ _ _ _ 11 (by decide) _ y x (by omega) (by omega))
  case piece5 => exact Eq.trans (b := gBlk (iblk m c 0 t) (iblk m c 1 t) (iblk m c 3 t) (iblk m c 2 t) (wBlk (iblk m c 4 t) 10 inb_S16x2048x256_S1x2048x256_10_0_0) x) (by sl_kernel_rfl) (gTile_at _ _ _ _ _ 10 (by decide) _ y x (by omega) (by omega))
  case piece6 => exact Eq.trans (b := gBlk (iblk m c 0 t) (iblk m c 1 t) (iblk m c 3 t) (iblk m c 2 t) (wBlk (iblk m c 4 t) 9 inb_S16x2048x256_S1x2048x256_9_0_0) x) (by sl_kernel_rfl) (gTile_at _ _ _ _ _ 9 (by decide) _ y x (by omega) (by omega))
  case piece7 => exact Eq.trans (b := gBlk (iblk m c 0 t) (iblk m c 1 t) (iblk m c 3 t) (iblk m c 2 t) (wBlk (iblk m c 4 t) 8 inb_S16x2048x256_S1x2048x256_8_0_0) x) (by sl_kernel_rfl) (gTile_at _ _ _ _ _ 8 (by decide) _ y x (by omega) (by omega))
  case piece8 => exact Eq.trans (b := gBlk (iblk m c 0 t) (iblk m c 1 t) (iblk m c 3 t) (iblk m c 2 t) (wBlk (iblk m c 4 t) 7 inb_S16x2048x256_S1x2048x256_7_0_0) x) (by sl_kernel_rfl) (gTile_at _ _ _ _ _ 7 (by decide) _ y x (by omega) (by omega))
  case piece9 => exact Eq.trans (b := gBlk (iblk m c 0 t) (iblk m c 1 t) (iblk m c 3 t) (iblk m c 2 t) (wBlk (iblk m c 4 t) 6 inb_S16x2048x256_S1x2048x256_6_0_0) x) (by sl_kernel_rfl) (gTile_at _ _ _ _ _ 6 (by decide) _ y x (by omega) (by omega))
  case piece10 => exact Eq.trans (b := gBlk (iblk m c 0 t) (iblk m c 1 t) (iblk m c 3 t) (iblk m c 2 t) (wBlk (iblk m c 4 t) 5 inb_S16x2048x256_S1x2048x256_5_0_0) x) (by sl_kernel_rfl) (gTile_at _ _ _ _ _ 5 (by decide) _ y x (by omega) (by omega))
  case piece11 => exact Eq.trans (b := gBlk (iblk m c 0 t) (iblk m c 1 t) (iblk m c 3 t) (iblk m c 2 t) (wBlk (iblk m c 4 t) 4 inb_S16x2048x256_S1x2048x256_4_0_0) x) (by sl_kernel_rfl) (gTile_at _ _ _ _ _ 4 (by decide) _ y x (by omega) (by omega))
  case piece12 => exact Eq.trans (b := gBlk (iblk m c 0 t) (iblk m c 1 t) (iblk m c 3 t) (iblk m c 2 t) (wBlk (iblk m c 4 t) 3 inb_S16x2048x256_S1x2048x256_3_0_0) x) (by sl_kernel_rfl) (gTile_at _ _ _ _ _ 3 (by decide) _ y x (by omega) (by omega))
  case piece13 => exact Eq.trans (b := gBlk (iblk m c 0 t) (iblk m c 1 t) (iblk m c 3 t) (iblk m c 2 t) (wBlk (iblk m c 4 t) 2 inb_S16x2048x256_S1x2048x256_2_0_0) x) (by sl_kernel_rfl) (gTile_at _ _ _ _ _ 2 (by decide) _ y x (by omega) (by omega))
  case piece14 => exact Eq.trans (b := gBlk (iblk m c 0 t) (iblk m c 1 t) (iblk m c 3 t) (iblk m c 2 t) (wBlk (iblk m c 4 t) 1 inb_S16x2048x256_S1x2048x256_1_0_0) x) (by sl_kernel_rfl) (gTile_at _ _ _ _ _ 1 (by decide) _ y x (by omega) (by omega))
  case piece15 => exact Eq.trans (b := gBlk (iblk m c 0 t) (iblk m c 1 t) (iblk m c 3 t) (iblk m c 2 t) (wBlk (iblk m c 4 t) 0 inb_S16x2048x256_S1x2048x256_0_0_0) x) (by sl_kernel_rfl) (gTile_at _ _ _ _ _ 0 (by decide) _ y x (by omega) (by omega))

theorem tileB (c : Dev nD) (t : Fin cfg0.N) (h : ¬ t.val % 8 = 0) (y : S1x256x4096.Idx) :
    (outsAt0 m c t.val t.isLt).1 y = gTile (iblk m c 0 t) (iblk m c 1 t) (iblk m c 3 t) (iblk m c 2 t) (iblk m c 4 t) (y 1) (y 2) := by
  rw [outsAt0_B m c t h]; frame_out
  canon_tiles x hx
  case piece0 => exact Eq.trans (b := gBlk (iblk m c 0 t) (iblk m c 1 t) (iblk m c 3 t) (iblk m c 2 t) (wBlk (iblk m c 4 t) 15 inb_S16x2048x256_S1x2048x256_15_0_0) x) (by sl_kernel_rfl) (gTile_at _ _ _ _ _ 15 (by decide) _ y x (by omega) (by omega))
  case piece1 => exact Eq.trans (b := gBlk (iblk m c 0 t) (iblk m c 1 t) (iblk m c 3 t) (iblk m c 2 t) (wBlk (iblk m c 4 t) 14 inb_S16x2048x256_S1x2048x256_14_0_0) x) (by sl_kernel_rfl) (gTile_at _ _ _ _ _ 14 (by decide) _ y x (by omega) (by omega))
  case piece2 => exact Eq.trans (b := gBlk (iblk m c 0 t) (iblk m c 1 t) (iblk m c 3 t) (iblk m c 2 t) (wBlk (iblk m c 4 t) 13 inb_S16x2048x256_S1x2048x256_13_0_0) x) (by sl_kernel_rfl) (gTile_at _ _ _ _ _ 13 (by decide) _ y x (by omega) (by omega))
  case piece3 => exact Eq.trans (b := gBlk (iblk m c 0 t) (iblk m c 1 t) (iblk m c 3 t) (iblk m c 2 t) (wBlk (iblk m c 4 t) 12 inb_S16x2048x256_S1x2048x256_12_0_0) x) (by sl_kernel_rfl) (gTile_at _ _ _ _ _ 12 (by decide) _ y x (by omega) (by omega))
  case piece4 => exact Eq.trans (b := gBlk (iblk m c 0 t) (iblk m c 1 t) (iblk m c 3 t) (iblk m c 2 t) (wBlk (iblk m c 4 t) 11 inb_S16x2048x256_S1x2048x256_11_0_0) x) (by sl_kernel_rfl) (gTile_at _ _ _ _ _ 11 (by decide) _ y x (by omega) (by omega))
  case piece5 => exact Eq.trans (b := gBlk (iblk m c 0 t) (iblk m c 1 t) (iblk m c 3 t) (iblk m c 2 t) (wBlk (iblk m c 4 t) 10 inb_S16x2048x256_S1x2048x256_10_0_0) x) (by sl_kernel_rfl) (gTile_at _ _ _ _ _ 10 (by decide) _ y x (by omega) (by omega))
  case piece6 => exact Eq.trans (b := gBlk (iblk m c 0 t) (iblk m c 1 t) (iblk m c 3 t) (iblk m c 2 t) (wBlk (iblk m c 4 t) 9 inb_S16x2048x256_S1x2048x256_9_0_0) x) (by sl_kernel_rfl) (gTile_at _ _ _ _ _ 9 (by decide) _ y x (by omega) (by omega))
  case piece7 => exact Eq.trans (b := gBlk (iblk m c 0 t) (iblk m c 1 t) (iblk m c 3 t) (iblk m c 2 t) (wBlk (iblk m c 4 t) 8 inb_S16x2048x256_S1x2048x256_8_0_0) x) (by sl_kernel_rfl) (gTile_at _ _ _ _ _ 8 (by decide) _ y x (by omega) (by omega))
  case piece8 => exact Eq.trans (b := gBlk (iblk m c 0 t) (iblk m c 1 t) (iblk m c 3 t) (iblk m c 2 t) (wBlk (iblk m c 4 t) 7 inb_S16x2048x256_S1x2048x256_7_0_0) x) (by sl_kernel_rfl) (gTile_at _ _ _ _ _ 7 (by decide) _ y x (by omega) (by omega))
  case piece9 => exact Eq.trans (b := gBlk (iblk m c 0 t) (iblk m c 1 t) (iblk m c 3 t) (iblk m c 2 t) (wBlk (iblk m c 4 t) 6 inb_S16x2048x256_S1x2048x256_6_0_0) x) (by sl_kernel_rfl) (gTile_at _ _ _ _ _ 6 (by decide) _ y x (by omega) (by omega))
  case piece10 => exact Eq.trans (b := gBlk (iblk m c 0 t) (iblk m c 1 t) (iblk m c 3 t) (iblk m c 2 t) (wBlk (iblk m c 4 t) 5 inb_S16x2048x256_S1x2048x256_5_0_0) x) (by sl_kernel_rfl) (gTile_at _ _ _ _ _ 5 (by decide) _ y x (by omega) (by omega))
  case piece11 => exact Eq.trans (b := gBlk (iblk m c 0 t) (iblk m c 1 t) (iblk m c 3 t) (iblk m c 2 t) (wBlk (iblk m c 4 t) 4 inb_S16x2048x256_S1x2048x256_4_0_0) x) (by sl_kernel_rfl) (gTile_at _ _ _ _ _ 4 (by decide) _ y x (by omega) (by omega))
  case piece12 => exact Eq.trans (b := gBlk (iblk m c 0 t) (iblk m c 1 t) (iblk m c 3 t) (iblk m c 2 t) (wBlk (iblk m c 4 t) 3 inb_S16x2048x256_S1x2048x256_3_0_0) x) (by sl_kernel_rfl) (gTile_at _ _ _ _ _ 3 (by decide) _ y x (by omega) (by omega))
  case piece13 => exact Eq.trans (b := gBlk (iblk m c 0 t) (iblk m c 1 t) (iblk m c 3 t) (iblk m c 2 t) (wBlk (iblk m c 4 t) 2 inb_S16x2048x256_S1x2048x256_2_0_0) x) (by sl_kernel_rfl) (gTile_at _ _ _ _ _ 2 (by decide) _ y x (by omega) (by omega))
  case piece14 => exact Eq.trans (b := gBlk (iblk m c 0 t) (iblk m c 1 t) (iblk m c 3 t) (iblk m c 2 t) (wBlk (iblk m c 4 t) 1 inb_S16x2048x256_S1x2048x256_1_0_0) x) (by sl_kernel_rfl) (gTile_at _ _ _ _ _ 1 (by decide) _ y x (by omega) (by omega))
  case piece15 => exact Eq.trans (b := gBlk (iblk m c 0 t) (iblk m c 1 t) (iblk m c 3 t) (iblk m c 2 t) (wBlk (iblk m c 4 t) 0 inb_S16x2048x256_S1x2048x256_0_0_0) x) (by sl_kernel_rfl) (gTile_at _ _ _ _ _ 0 (by decide) _ y x (by omega) (by omega))

theorem tile (c : Dev nD) (t : Fin cfg0.N) (y : S1x256x4096.Idx) :
    (outsAt0 m c t.val t.isLt).1 y = gTile (iblk m c 0 t) (iblk m c 1 t) (iblk m c 3 t) (iblk m c 2 t) (iblk m c 4 t) (y 1) (y 2) := by
  by_cases h : t.val % 8 = 0
  · exact tileA m c t h y
  · exact tileB m c t h y

theorem idx : ∀ t : Fin cfg0.N, win0_0.index t = ![t.val / 8, t.val % 8, 0] ∧ win0_1.index t = ![0, 0]
    ∧ win0_2.index t = ![t.val / 8, 0, 0, 0] ∧ win0_3.index t = ![t.val / 8, 1, 0, 0] ∧ win0_4.index t = ![0, 0, 0]
    ∧ win0_15.index t = ![t.val / 8, t.val % 8, 0] ∧ t.val < 64 :=
  (by decide +kernel : ∀ t : Fin grid0.N, _)

/-- The line before the region, past its first six operations, writes neither of the two prepared operands. -/
theorem past (b : Ref sig .tc) (hb : b = main_v0 ∨ b = main_v5) (W : Valuation τ sig (Elt Ideal)) :
    StableHlo.after (List.flatten [hostOps0.drop 6, hostOps0_1, hostOps0_2, hostOps0_3, hostOps0_4]) W (Proc.devRef .tc b) = W (Proc.devRef .tc b) := by
  rcases hb with rfl | rfl <;>
  exact StableHlo.after_of_forall_not_mem _ _ (List.forall_iff_forall_mem.mp (by
    simp only [hostOps0, hostOps0_1, hostOps0_2, hostOps0_3, hostOps0_4, List.drop_succ_cons, List.drop_zero, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry6 (c : Dev nD) (b : Ref sig .tc) (hb : b = main_v0 ∨ b = main_v5) :
    V m c b = StableHlo.after (hostOps0.take 6) (fun b => m (c, b)) (Proc.devRef .tc b) :=
  (congrFun (StableHlo.after_append (hostOps0.take 6) (List.flatten [hostOps0.drop 6, hostOps0_1, hostOps0_2, hostOps0_3, hostOps0_4]) (fun b => m (c, b))) _).trans
    (past b hb _)
theorem ada_at (c : Dev nD) (b : Fin 8) (h : Fin 2) (k : Fin 2048) : V m c main_v0 (ix4 b h (0 : Fin 1) k : S8x2x1x2048.Idx) =
    m ((c.tc : Thread nD τ).loc main_arg1) (ix2 b (⟨2048 * h.val + k.val, by omega⟩ : Fin 4096) : S8x4096.Idx) := by
  rw [entry6 m c main_v0 (.inl rfl)]
  simp only [hostOps0, List.take_succ_cons, List.take_zero]
  entry_read
  pointwise
  all_goals blk_ext
theorem w_at (c : Dev nD) (j : Fin 16) (r : Fin 2048) (n : Fin 256) : V m c main_v5 (ix3 j r n : S16x2048x256.Idx) =
    m ((c.tc : Thread nD τ).loc main_arg3) (ix3 (0 : Fin 1) r (⟨5632 + (256 * j.val + n.val), by omega⟩ : Fin 9728) : S1x2048x9728.Idx) := by
  rw [entry6 m c main_v5 (.inr rfl)]
  simp only [hostOps0, List.take_succ_cons, List.take_zero]
  entry_read
  pointwise
  all_goals blk_ext

theorem final (c : Dev nD) : (dats m 0 c).arrAt 15 cfg0.N = Cert.Spec.gates (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  blk_simp
  rw [after0_15]
  refine (tile m c t y).trans ?_
  unfold gTile Spec.gates Spec.gateE Spec.normE
  blk_point [iblk, V, idx t]
  · refine (congrArg (V m c main_v0) (a₂ := (ix4 ((win0_15.blk t).view.emb y 0 : Fin 8) (1 : Fin 2) (0 : Fin 1) k : S8x2x1x2048.Idx)) ?_).trans
      ((ada_at m c _ 1 k).trans rfl)
    blk_ext [idx t]
  · refine (congrArg (V m c main_v0) (a₂ := (ix4 ((win0_15.blk t).view.emb y 0 : Fin 8) (0 : Fin 2) (0 : Fin 1) k : S8x2x1x2048.Idx)) ?_).trans
      ((ada_at m c _ 0 k).trans ?_)
    · blk_ext [idx t]
    · congr 1; blk_ext
  · refine (congrArg (V m c main_v5) (a₂ := (ix3 (⟨(y 2).val / 256, by omega⟩ : Fin 16) k (⟨(y 2).val % 256, by omega⟩ : Fin 256) : S16x2048x256.Idx)) ?_).trans
      ((w_at m c _ k _).trans ?_)
    · blk_ext [idx t]
    · congr 1; blk_ext

end Cert.Gates

end
-- ==== Proof.KFfn.lean ====
/- The feed-forward call: four steps over quarters of the hidden lanes, folded into the output block. -/
module

public import proofs.«01_k».proof.Proof.Spec
public import proofs.«01_k».proof.Proof.Finite
public import proofs.«01_k».proof.Proof.Gen.FfnIdeal.Frame
public import proofs.«01_k».proof.Proof.Gen.FfnIdeal.Value
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.KFfn

open Idealize.ShloMosaic Idealize.ShloMosaic.TcCoe Idealize.SL.Sem Cert.FfnIdeal Cert.FfnIdeal.Gen Cert.FfnIdeal.Value

variable (m : (ℓ : Loc nD τ sig) → Buf (Elt Ideal) ℓ)

theorem pay1_at (x : FVec Ideal S1x512x2048 .f32) (r : Fin 512) (n : Fin 2048) : k0_pay1 x (ix3 0 r n) = x (ix3 0 r n) := by
  pointwise [k0_pay1]
/-- One step: the gated product of a quarter of the hidden lanes, added to what the block held. -/
theorem pay2_at (a : FVec Ideal S1x512x2048 .bf16) (w : FVec Ideal S2048x2048 .bf16) (acc : FVec Ideal S1x512x2048 .f32) (g : FVec Ideal S1x1x1x2048 .f32)
    (v : FVec Ideal S2048x2048 .bf16) (r : Fin 512) (n : Fin 2048) : k0_pay2 a w acc g v (ix3 0 r n) = acc (ix3 0 r n) + g (ix4 0 0 0 n)
      * ∑ f : Fin 2048, max (∑ k : Fin 2048, a (ix3 0 r k) * w (ix2 k f)) 0 * max (∑ k : Fin 2048, a (ix3 0 r k) * w (ix2 k f)) 0 * v (ix2 f n) := by
  pointwise [k0_pay2]

theorem idx : ∀ t : Fin cfg0.N, win0_0.index t = ![t.val / 16, t.val / 4 % 4, 0] ∧ win0_1.index t = ![0, t.val % 4]
    ∧ win0_2.index t = ![t.val % 4, 0] ∧ win0_3.index t = ![t.val / 16, t.val / 4 % 4, 0] ∧ win0_4.index t = ![t.val / 16, 3, 0, 0] ∧ t.val < 128 :=
  (by decide +kernel : ∀ t : Fin grid0.N, _)

/-- A quarter of the hidden lanes, against its rows of the second weights. -/
def part (h : FVec Ideal ⟨3, ![8, 2048, 2048]⟩ .bf16) (w1 : FVec Ideal ⟨3, ![1, 2048, 8192]⟩ .f32) (w2 : FVec Ideal ⟨3, ![1, 8192, 2048]⟩ .f32)
    (b : Fin 8) (l n : Fin 2048) (j : Fin 4) : EReal :=
  ∑ f : Fin 2048, Spec.hidE h w1 b l (⟨2048 * j.val + f.val, by omega⟩ : Fin 8192) * Spec.hidE h w1 b l (⟨2048 * j.val + f.val, by omega⟩ : Fin 8192)
    * w2 (ix3 (0 : Fin 1) (⟨2048 * j.val + f.val, by omega⟩ : Fin 8192) n)

variable (b : Fin 8) (l n : Fin 2048) (j : Fin 4)

/-- The step that takes quarter `j` for the rows of sequence `b` at `l`. -/
def pt (b : Fin 8) (l : Fin 2048) (j : Fin 4) : Fin cfg0.N :=
  ⟨16 * b.val + 4 * (l.val / 512) + j.val, by rw [show cfg0.N = 128 from N_0]; omega⟩

theorem b0_at (c : Dev nD) (k : Fin 2048) : iblk m c 0 (pt b l j) (ix3 (0 : Fin 1) (⟨l.val % 512, by omega⟩ : Fin 512) k : S1x512x2048.Idx)
    = m ((c.tc : Thread nD τ).loc main_arg0) (ix3 b l k : S8x2048x2048.Idx) := by
  have e : (pt b l j).val = 16 * b.val + 4 * (l.val / 512) + j.val := rfl
  blk_point [iblk, V, idx (pt b l j), e]
theorem b3_at (c : Dev nD) : iblk m c 3 (pt b l j) (ix3 (0 : Fin 1) (⟨l.val % 512, by omega⟩ : Fin 512) n : S1x512x2048.Idx)
    = m ((c.tc : Thread nD τ).loc main_arg1) (ix3 b l n : S8x2048x2048.Idx) := by
  have e : (pt b l j).val = 16 * b.val + 4 * (l.val / 512) + j.val := rfl
  blk_point [iblk, V, idx (pt b l j), e]
theorem b4_at (c : Dev nD) : iblk m c 4 (pt b l j) (ix4 (0 : Fin 1) (0 : Fin 1) (0 : Fin 1) n : S1x1x1x2048.Idx)
    = m ((c.tc : Thread nD τ).loc main_arg2) (ix2 b (⟨6144 + n.val, by omega⟩ : Fin 8192) : S8x8192.Idx) := by
  have e : (pt b l j).val = 16 * b.val + 4 * (l.val / 512) + j.val := rfl
  blk_point [iblk, V, idx (pt b l j), e]
theorem b1_at (c : Dev nD) (k f : Fin 2048) : iblk m c 1 (pt b l j) (ix2 k f : S2048x2048.Idx)
    = m ((c.tc : Thread nD τ).loc main_arg3) (ix3 (0 : Fin 1) k (⟨2048 * j.val + f.val, by omega⟩ : Fin 8192) : S1x2048x8192.Idx) := by
  have e : (pt b l j).val = 16 * b.val + 4 * (l.val / 512) + j.val := rfl
  blk_point [iblk, V, idx (pt b l j), e]
theorem b2_at (c : Dev nD) (f : Fin 2048) : iblk m c 2 (pt b l j) (ix2 f n : S2048x2048.Idx)
    = m ((c.tc : Thread nD τ).loc main_arg4) (ix3 (0 : Fin 1) (⟨2048 * j.val + f.val, by omega⟩ : Fin 8192) n : S1x8192x2048.Idx) := by
  have e : (pt b l j).val = 16 * b.val + 4 * (l.val / 512) + j.val := rfl
  blk_point [iblk, V, idx (pt b l j), e]

/-- The gate of a sequence, read from its columns of the modulation. -/
def gate (c : Dev nD) (b : Fin 8) (n : Fin 2048) : EReal := m ((c.tc : Thread nD τ).loc main_arg2) (ix2 b (⟨6144 + n.val, by omega⟩ : Fin 8192) : S8x8192.Idx)
/-- The quarter's sum over the call's own arguments. -/
def parts (c : Dev nD) (b : Fin 8) (l n : Fin 2048) (j : Fin 4) : EReal := part (m ((c.tc : Thread nD τ).loc main_arg0)) (m ((c.tc : Thread nD τ).loc main_arg3)) (m ((c.tc : Thread nD τ).loc main_arg4)) b l n j

/-- The residual row the block starts from. -/
def xin (c : Dev nD) (b : Fin 8) (l n : Fin 2048) : EReal := m ((c.tc : Thread nD τ).loc main_arg1) (ix3 b l n : S8x2048x2048.Idx)

/-- A step, over the arguments. -/
theorem step_at (c : Dev nD) (acc : FVec Ideal S1x512x2048 .f32) :
    k0_pay2 (iblk m c 0 (pt b l j)) (iblk m c 1 (pt b l j)) acc (iblk m c 4 (pt b l j)) (iblk m c 2 (pt b l j)) (ix3 (0 : Fin 1) (⟨l.val % 512, by omega⟩ : Fin 512) n)
    = acc (ix3 (0 : Fin 1) (⟨l.val % 512, by omega⟩ : Fin 512) n) + gate m c b n
      * parts m c b l n j := by
  refine (pay2_at _ _ _ _ _ _ _).trans (congrArg₂ (fun g p : EReal => _ + g * p) (b4_at m b l n j c) ?_)
  unfold parts part
  refine Finset.sum_congr rfl fun f _ => ?_
  exact congrArg₂ (fun z w : EReal => z * z * w) (congrArg (fun z : EReal => max z 0) (Finset.sum_congr rfl fun k _ =>
    congrArg₂ (fun z w : EReal => z * w) (b0_at m b l j c k) (b1_at m b l j c k f))) (b2_at m b l n j c f)

/-- The whole fold, at one element of the array. -/
theorem fold_at (c : Dev nD) : G5 m c (ix3 b l n) =
    xin m c b l n
    + gate m c b n * parts m c b l n 0
    + gate m c b n * parts m c b l n 1
    + gate m c b n * parts m c b l n 2
    + gate m c b n * parts m c b l n 3 := by
  have hr : run5Of (ix3 b l n) = 4 * b.val + l.val / 512 := by
    show 4 * (b.val / 1 - 0) + 1 * (l.val / 512 - 0) + 1 * (n.val / 2048 - 0) = _
    omega
  have hN : 4 * run5Of (ix3 b l n) + 3 < cfg0.N := by rw [show cfg0.N = 128 from N_0]; omega
  have hl : loc5Of (ix3 b l n) = ix3 (0 : Fin 1) (⟨l.val % 512, by omega⟩ : Fin 512) n := by
    funext a
    match a with
    | ⟨0, _⟩ => exact Fin.ext (show b.val % 1 = 0 by omega)
    | ⟨1, _⟩ => rfl
    | ⟨2, _⟩ => exact Fin.ext (show n.val % 2048 = n.val by omega)
  have hp : ∀ (i : Fin 4) (h : 4 * run5Of (ix3 b l n) + i.val < cfg0.N), (⟨4 * run5Of (ix3 b l n) + i.val, h⟩ : Fin cfg0.N) = pt b l i := fun i h =>
    Fin.ext (by show 4 * run5Of (ix3 b l n) + i.val = 16 * b.val + 4 * (l.val / 512) + i.val; omega)
  unfold G5
  rw [dif_pos hN, hl, Pipeline.accAt_succ, Pipeline.accAt_succ, Pipeline.accAt_succ, Pipeline.accAt_zero]
  have s (i : Fin 4) (h) (acc) : step5 m c (4 * run5Of (ix3 b l n) + i.val) h acc (ix3 (0 : Fin 1) (⟨l.val % 512, by omega⟩ : Fin 512) n)
      = acc (ix3 (0 : Fin 1) (⟨l.val % 512, by omega⟩ : Fin 512) n) + gate m c b n
      * parts m c b l n i := by
    unfold step5
    rw [hp i h]
    exact step_at m b l n i c acc
  refine (s 3 _ _).trans (congrArg (· + _) ((s 2 _ _).trans (congrArg (· + _) ((s 1 _ _).trans (congrArg (· + _) ?_)))))
  refine Eq.trans (b := step5 m c (4 * run5Of (ix3 b l n) + (0 : Fin 4).val) (by omega) (k0_pay1 (iblk m c 3 (pt b l 0))) (ix3 (0 : Fin 1) (⟨l.val % 512, by omega⟩ : Fin 512) n)) ?_
    ((s 0 _ _).trans (congrArg (· + _) ((pay1_at _ _ _).trans (b3_at m b l n 0 c))))
  rw [← hp 0 (by omega)]
  rfl

/-- What the call leaves, where the arguments that it needs finite are finite. -/
theorem final (c : Dev nD) (h0 : ∀ i, Finite.Fin' (m ((c.tc : Thread nD τ).loc main_arg0) i)) (h2 : ∀ i, Finite.Fin' (m ((c.tc : Thread nD τ).loc main_arg2) i))
    (h3 : ∀ i, Finite.Fin' (m ((c.tc : Thread nD τ).loc main_arg3) i)) (h4 : ∀ i, Finite.Fin' (m ((c.tc : Thread nD τ).loc main_arg4) i)) :
    G5 m c = Cert.Spec.ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  idx_vars i
  have hp (j : Fin 4) : Finite.Fin' (part (m ((c.tc : Thread nD τ).loc main_arg0)) (m ((c.tc : Thread nD τ).loc main_arg3)) (m ((c.tc : Thread nD τ).loc main_arg4)) i0 i1 i2 j) :=
    Finite.sum _ fun f => Finite.mul (Finite.mul (Finite.max0 (Finite.sum _ fun k => Finite.mul (h0 _) (h3 _))) (Finite.max0 (Finite.sum _ fun k => Finite.mul (h0 _) (h3 _)))) (h4 _)
  refine (fold_at m i0 i1 i2 c).trans ((Finite.four (h2 _) (hp 0) (hp 1) (hp 2) (hp 3)).trans ?_)
  unfold Spec.ffn
  refine congrArg (fun z : EReal => _ + _ * z) ?_
  refine Eq.symm ((Fin.sum_univ_tiles 4 2048 rfl _).trans ?_)
  rw [Fin.sum_univ_four]
  refine congrArg₂ (fun z w : EReal => z + w) (congrArg₂ (fun z w : EReal => z + w) (congrArg₂ (fun z w : EReal => z + w) ?_ ?_) ?_) ?_ <;>
    exact Finset.sum_congr rfl fun f _ => by
      simp only [Spec.hidE, Nat.mul_comm]
      rfl

end Cert.KFfn

end
-- ==== Proof.KMerge.lean ====
/- The merge's blocks, over the arrays. -/
module

public import proofs.«01_k».proof.Proof.Spec
public import proofs.«01_k».proof.Proof.Gen.MergeIdeal.Frame
public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.KMerge

open Idealize.ShloMosaic Idealize.ShloMosaic.TcCoe Idealize.SL.Sem Cert.MergeIdeal Cert.MergeIdeal.Gen Cert.MergeIdeal.Value

variable (m : (ℓ : Loc nD τ sig) → Buf (Elt Ideal) ℓ)

/-- The merged branches of a tile. -/
def mTile (x1 x2 : FVec Ideal S1x512x1024 .bf16) (x3 : FVec Ideal S1x512x4096 .bf16) (x4 x5 : FVec Ideal S1024x2048 .bf16)
    (r : Fin 512) (n : Fin 2048) : EReal :=
  Ideal.logistic (x3 (ix3 0 r (⟨n.val, by omega⟩ : Fin 4096))) * (∑ k : Fin 1024, x1 (ix3 0 r k) * x4 (ix2 k n))
    + Ideal.logistic (x3 (ix3 0 r (⟨2048 + n.val, by omega⟩ : Fin 4096))) * (∑ k : Fin 1024, x2 (ix3 0 r k) * x5 (ix2 k n))
/-- The tile of the residual stream. -/
def uTile (x0 : FVec Ideal S1x512x2048 .f32) (x1 x2 : FVec Ideal S1x512x1024 .bf16) (x3 : FVec Ideal S1x512x4096 .bf16)
    (x4 x5 : FVec Ideal S1024x2048 .bf16) (x6 : FVec Ideal S2048x2048 .bf16) (x7 : FVec Ideal S1x1x1x2048 .f32) (r : Fin 512) (n : Fin 2048) : EReal :=
  x0 (ix3 0 r n) + x7 (ix4 0 0 0 n) * ∑ k : Fin 2048, mTile x1 x2 x3 x4 x5 r k * x6 (ix2 k n)
/-- A normed, scaled and shifted row. -/
def nTile (u : Fin 2048 → EReal) (x8 : FVec Ideal S1x2048 .f32) (sc sh : FVec Ideal S1x1x1x2048 .f32) (n : Fin 2048) : EReal :=
  u n * Ideal.rsqrt (Ideal.div (∑ j : Fin 2048, u j * u j) (Ideal.ofBits .f32 0x45000000#32) + Ideal.ofBits .f32 0x358637BD#32) * x8 (ix2 0 n)
      * (1 + sc (ix4 0 0 0 n)) + sh (ix4 0 0 0 n)

variable (x0 : Vec Ideal S1x512x2048 .f32) (x1 x2 : Vec Ideal S1x512x1024 .bf16) (x3 : Vec Ideal S1x512x4096 .bf16)
    (x4 x5 : Vec Ideal S1024x2048 .bf16) (x6 : Vec Ideal S2048x2048 .bf16) (x7 : Vec Ideal S1x1x1x2048 .f32)
    (x8 : Vec Ideal S1x2048 .f32) (x9 x10 : Vec Ideal S1x1x1x2048 .f32)

/-- The upper half's rows. -/
theorem upper (r : Fin 256) (n : Fin 2048) : k0_pay14 x0 x1 x2 x3 x4 x5 x6 x7 x8 x9 x10 (ix2 r n)
    = uTile x0 x1 x2 x3 x4 x5 x6 x7 (⟨r.val, by omega⟩ : Fin 512) n := by
  unfold uTile mTile
  pointwise [k0_pay14, k0_pay6, k0_pay2, k0_pay4]
/-- The lower half's rows. -/
theorem lower (r : Fin 256) (n : Fin 2048) : k0_pay10 (k0_pay13 x0 x1 x2 x3 x4 x5 x6 x7 x8 x9 x10) (k0_pay15 x0 x1 x2 x3 x4 x5 x6 x7 x8 x9 x10) (View.ld x7 r0_9) (ix2 r n)
    = uTile x0 x1 x2 x3 x4 x5 x6 x7 (⟨256 + r.val, by omega⟩ : Fin 512) n := by
  unfold uTile mTile
  pointwise [k0_pay13, k0_pay15, k0_pay9, k0_pay10, k0_pay5, k0_pay1, k0_pay3]

theorem lift (x : S1x256x2048.Idx) : x = ix3 (0 : Fin 1) (x 1 : Fin 256) (x 2 : Fin 2048) := by
  funext a
  match a with
  | ⟨0, _⟩ => exact Fin.ext (show (x 0).val = 0 by have := (x 0).isLt; exact Nat.lt_one_iff.mp this)
  | ⟨1, _⟩ => rfl
  | ⟨2, _⟩ => rfl

/-- A half's store of the residual stream. -/
theorem pay7_at (u : FVec Ideal S256x2048 .f32) (r : Fin 256) (n : Fin 2048) : k0_pay7 u (ix3 0 r n) = u (ix2 r n) := by
  pointwise [k0_pay7]
theorem pay11_at (a b : FVec Ideal S256x2048 .f32) (g : Vec Ideal S1x1x1x2048 .f32) (r : Fin 256) (n : Fin 2048) :
    k0_pay11 a b g (ix3 0 r n) = k0_pay10 a b g (ix2 r n) := by
  unfold k0_pay11
  generalize k0_pay10 a b g = u
  pointwise
/-- A half's store of the normed rows. -/
theorem pay8_at (u : FVec Ideal S256x2048 .f32) (r : Fin 256) (n : Fin 2048) :
    k0_pay8 u (View.ld x8 r0_10) (View.ld x10 r0_9) (View.ld x9 r0_9) (ix3 0 r n) = nTile (fun j => u (ix2 r j)) x8 x10 x9 n := by
  unfold nTile
  pointwise [k0_pay8]
theorem pay12_at (a b : FVec Ideal S256x2048 .f32) (g : Vec Ideal S1x1x1x2048 .f32) (r : Fin 256) (n : Fin 2048) :
    k0_pay12 a b g (View.ld x8 r0_10) (View.ld x10 r0_9) (View.ld x9 r0_9) (ix3 0 r n) = nTile (fun j => k0_pay10 a b g (ix2 r j)) x8 x10 x9 n := by
  unfold k0_pay12 nTile
  generalize k0_pay10 a b g = u
  pointwise

theorem out11_at (y : S1x512x2048.Idx) : out0_11 x0 x1 x2 x3 x4 x5 x6 x7 x8 x9 x10 y = uTile x0 x1 x2 x3 x4 x5 x6 x7 (y 1) (y 2) := by
  unfold out0_11
  canon_tiles x hx
  case piece0 =>
    exact (congrArg _ (lift x)).trans ((pay11_at _ _ _ _ _).trans ((lower x0 x1 x2 x3 x4 x5 x6 x7 x8 x9 x10 _ _).trans (congrArg₂ (uTile x0 x1 x2 x3 x4 x5 x6 x7)
      (Fin.ext (by show 256 + (x 1).val = (y 1).val; omega)) (Fin.ext (by show (x 2).val = (y 2).val; omega)))))
  case piece1 =>
    exact (congrArg _ (lift x)).trans ((pay7_at _ _ _).trans ((upper x0 x1 x2 x3 x4 x5 x6 x7 x8 x9 x10 _ _).trans (congrArg₂ (uTile x0 x1 x2 x3 x4 x5 x6 x7)
      (Fin.ext (by show (x 1).val = (y 1).val; omega)) (Fin.ext (by show (x 2).val = (y 2).val; omega)))))

theorem out12_at (y : S1x512x2048.Idx) : out0_12 x0 x1 x2 x3 x4 x5 x6 x7 x8 x9 x10 y
    = nTile (fun j => uTile x0 x1 x2 x3 x4 x5 x6 x7 (y 1) j) x8 x10 x9 (y 2) := by
  unfold out0_12
  canon_tiles x hx
  case piece0 =>
    exact (congrArg _ (lift x)).trans ((pay12_at x8 x9 x10 _ _ _ _ _).trans (congrArg₂ (fun u n => nTile u x8 x10 x9 n)
      (funext fun j => (lower x0 x1 x2 x3 x4 x5 x6 x7 x8 x9 x10 _ _).trans (congrArg (fun r => uTile x0 x1 x2 x3 x4 x5 x6 x7 r j)
        (Fin.ext (by show 256 + (x 1).val = (y 1).val; omega)))) (Fin.ext (by show (x 2).val = (y 2).val; omega))))
  case piece1 =>
    exact (congrArg _ (lift x)).trans ((pay8_at x8 x9 x10 _ _ _).trans (congrArg₂ (fun u n => nTile u x8 x10 x9 n)
      (funext fun j => (upper x0 x1 x2 x3 x4 x5 x6 x7 x8 x9 x10 _ _).trans (congrArg (fun r => uTile x0 x1 x2 x3 x4 x5 x6 x7 r j)
        (Fin.ext (by show (x 1).val = (y 1).val; omega)))) (Fin.ext (by show (x 2).val = (y 2).val; omega))))

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![0, 0]
    ∧ win0_5.index t = ![0, 0] ∧ win0_6.index t = ![0, 0] ∧ win0_7.index t = ![t.val / 4, 0, 0, 0] ∧ win0_8.index t = ![0, 0]
    ∧ win0_9.index t = ![t.val / 4, 1, 0, 0] ∧ win0_10.index t = ![t.val / 4, 2, 0, 0]
    ∧ win0_11.index t = ![t.val / 4, t.val % 4, 0] ∧ win0_12.index t = ![t.val / 4, t.val % 4, 0] ∧ t.val < 32 :=
  (by decide +kernel : ∀ t : Fin grid0.N, _)

theorem final11 (c : Dev nD) : (dats m 0 c).arrAt 11 cfg0.N = Cert.Spec.x1 (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine (dats m 0 c).arrAt_eq_of_covers 11 _ (by decide +kernel) fun t hf y => ?_
  blk_simp
  rw [after0_11]
  refine (out11_at _ _ _ _ _ _ _ _ _ _ _ y).trans ?_
  unfold uTile mTile Spec.x1 Spec.x1E Spec.mergedE
  blk_point [iblk, V, idx t]

/-- The rows of a tile are rows of the residual stream. -/
theorem u_at (c : Dev nD) (t : Fin cfg0.N) (y : S1x512x2048.Idx) (j : Fin 2048) : uTile (iblk m c 0 t) (iblk m c 1 t) (iblk m c 2 t) (iblk m c 3 t) (iblk m c 4 t) (iblk m c 5 t) (iblk m c 6 t) (iblk m c 7 t) (y 1) j
    = Spec.x1E (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ((win0_12.blk t).view.emb y 0) ((win0_12.blk t).view.emb y 1) j := by
  unfold uTile mTile Spec.x1E Spec.mergedE
  blk_point [iblk, V, idx t]
theorem norm_at (c : Dev nD) (t : Fin cfg0.N) (y : S1x512x2048.Idx) (u : Fin 2048 → EReal) : nTile u (iblk m c 8 t) (iblk m c 10 t) (iblk m c 9 t) (y 2)
    = Spec.norm2E u (m ((c.tc : Thread nD τ).loc main_arg7)) (m ((c.tc : Thread nD τ).loc main_arg8)) ((win0_12.blk t).view.emb y 0) ((win0_12.blk t).view.emb y 2) := by
  unfold nTile Spec.norm2E
  have e : (win0_12.blk t).view.emb y 2 = y 2 := Fin.ext (by blk_point [idx t])
  rw [e]
  blk_point [iblk, V, idx t]

theorem final12 (c : Dev nD) : (dats m 0 c).arrAt 12 cfg0.N = Cert.Spec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 12 _ (by decide +kernel) fun t hf y => ?_
  blk_simp
  rw [after0_12]
  exact (out12_at _ _ _ _ _ _ _ _ _ _ _ y).trans ((norm_at m c t y _).trans
    (congrArg (fun u => Spec.norm2E u _ _ _ _) (funext fun j => u_at m c t y j)))

end Cert.KMerge

end
-- ==== Proof.KInproj.lean ====
/- The projection's blocks, over the arrays. -/
module

public import proofs.«01_k».proof.Proof.Spec
public import proofs.«01_k».proof.Proof.Gen.InprojIdeal.Frame
public import proofs.«01_k».proof.Proof.Gen.InprojIdeal.Value
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.KInproj

open Idealize.ShloMosaic Idealize.ShloMosaic.TcCoe Idealize.SL.Sem Cert.InprojIdeal Cert.InprojIdeal.Gen Cert.InprojIdeal.Value

variable (m : (ℓ : Loc nD τ sig) → Buf (Elt Ideal) ℓ)

/-- The normed rows of a tile against its column block of the weights. -/
def pTile (X : FVec Ideal S1x512x2048 .f32) (g : FVec Ideal S1x2048 .f32) (sc sh : FVec Ideal S1x1x1x2048 .f32)
    (W : FVec Ideal S2048x2816 .bf16) (r : Fin 512) (n : Fin 2816) : EReal :=
  ∑ k : Fin 2048, (X (ix3 0 r k) * Ideal.rsqrt (Ideal.div (∑ j : Fin 2048, X (ix3 0 r j) * X (ix3 0 r j)) (Ideal.ofBits .f32 0x45000000#32)
      + Ideal.ofBits .f32 0x358637BD#32) * g (ix2 0 k) * (1 + sc (ix4 0 0 0 k)) + sh (ix4 0 0 0 k)) * W (ix2 k n)

variable (x0 : Vec Ideal S1x512x2048 .f32) (x1 : Vec Ideal S1x2048 .f32) (x2 x3 : Vec Ideal S1x1x1x2048 .f32) (x4 : Vec Ideal S2048x2816 .bf16)
/-- The upper half's rows. -/
theorem upper (r : Fin 256) (n : Fin 2816) : k0_pay3 (View.ld x0 r0_0) (View.ld x1 r0_1) (View.ld x3 r0_2) (View.ld x2 r0_2) (View.ld x4 r0_3) (ix3 0 r n)
    = pTile x0 x1 x3 x2 x4 (⟨r.val, by omega⟩ : Fin 512) n := by
  unfold pTile
  pointwise [k0_pay3]
/-- The lower half's rows. -/
theorem lower (r : Fin 256) (n : Fin 2816) : k0_pay4 (View.ld x0 r0_5) (View.ld x1 r0_1) (View.ld x3 r0_2) (View.ld x2 r0_2) (View.ld x4 r0_3) (ix3 0 r n)
    = pTile x0 x1 x3 x2 x4 (⟨256 + r.val, by omega⟩ : Fin 512) n := by
  unfold pTile
  pointwise [k0_pay4]

theorem lift (x : S1x256x2816.Idx) : x = ix3 (0 : Fin 1) (x 1 : Fin 256) (x 2 : Fin 2816) := by
  funext a
  match a with
  | ⟨0, _⟩ => exact Fin.ext (show (x 0).val = 0 by have := (x 0).isLt; exact Nat.lt_one_iff.mp this)
  | ⟨1, _⟩ => rfl
  | ⟨2, _⟩ => rfl

theorem out_at (x5 : Vec Ideal S8x2048 .f32) (x6 : Vec Ideal S1x2048x128 .f32) (x7 : Vec Ideal S1x128 .f32) (x8 x9 : Vec Ideal S1x16x2048 .f32)
    (x10 : Vec Ideal S1x32x2048 .f32) (x11 : Vec Ideal S1x32x8192 .f32) (x12 : Vec Ideal S1x128x2048 .f32) (y : S1x512x2816.Idx) :
    out0_13 x0 x1 x2 x3 x4 x5 x6 x7 x8 x9 x10 x11 x12 y = pTile x0 x1 x3 x2 x4 (y 1) (y 2) := by
  unfold out0_13
  canon_tiles x hx
  case piece0 =>
    exact (congrArg _ (lift x)).trans ((lower x0 x1 x2 x3 x4 _ _).trans (congrArg₂ (pTile x0 x1 x3 x2 x4) (Fin.ext (by show 256 + (x 1).val = (y 1).val; omega)) (Fin.ext (by show (x 2).val = (y 2).val; omega))))
  case piece1 =>
    exact (congrArg _ (lift x)).trans ((upper x0 x1 x2 x3 x4 _ _).trans (congrArg₂ (pTile x0 x1 x3 x2 x4) (Fin.ext (by show (x 1).val = (y 1).val; omega)) (Fin.ext (by show (x 2).val = (y 2).val; omega))))

theorem idx : ∀ t : Fin cfg0.N, win0_0.index t = ![t.val % 32 / 4, t.val % 4, 0] ∧ win0_1.index t = ![0, 0]
    ∧ win0_2.index t = ![t.val % 32 / 4, 0, 0, 0] ∧ win0_3.index t = ![t.val % 32 / 4, 1, 0, 0] ∧ win0_4.index t = ![0, t.val / 32]
    ∧ win0_13.index t = ![t.val % 32 / 4, t.val % 4, t.val / 32] ∧ t.val < 64 :=
  (by decide +kernel : ∀ t : Fin grid0.N, _)

theorem final (c : Dev nD) : (dats m 0 c).arrAt 13 cfg0.N = Cert.Spec.proj (m ((c.tc : Thread nD τ).loc main_arg0))
    (m ((c.tc : Thread nD τ).loc main_arg2)) (m ((c.tc : Thread nD τ).loc main_arg3)) (m ((c.tc : Thread nD τ).loc main_arg4)) := by
  refine (dats m 0 c).arrAt_eq_of_covers 13 _ (by decide +kernel) fun t hf y => ?_
  blk_simp
  rw [after0_13]
  refine (out_at _ _ _ _ _ _ _ _ _ _ _ _ _ y).trans ?_
  unfold pTile Spec.proj Spec.normE
  blk_point [iblk, V, idx t]

end Cert.KInproj

end
-- ==== Proof.RGates.lean ====
/- The plain program's gates are the specification's. -/
module

public import proofs.«01_k».proof.Proof.Spec
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.RGates

open Idealize.ShloMosaic Idealize.ShloMosaic.TcCoe Idealize.SL.Sem Cert.ReferenceIdeal Cert.ReferenceIdeal.Gen Cert.ReferenceIdeal.Value

theorem gates_val (a0 : FVec Ideal ⟨3, ![8, 2048, 2048]⟩ .f32) (a1 : FVec Ideal ⟨2, ![8, 4096]⟩ .f32) (a2 : FVec Ideal ⟨2, ![1, 2048]⟩ .f32) (a3 : FVec Ideal ⟨3, ![1, 2048, 9728]⟩ .f32) :
    truncf .bf16 (Host.dotGeneral dot_S8x2048x2048_S2048x4096_S8x2048x4096_2_0_01_1_n_n none (addf (mulf (mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a2 shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] a1 slices_S8x4096_S8x2048_0_2048))))) (broadcastInDim S8x2048x2048 ![0, 1, 2] bcast_S8x1x2048_S8x2048x2048_0_1_2 (broadcastInDim S8x1x2048 ![0, 2] bcast_S8x2048_S8x1x2048_0_2 (extractStridedSlice S8x2048 ![0, 0] a1 slices_S8x4096_S8x2048_0_0)))) (extractStridedSlice S2048x4096 ![0, 5632] (shapeCast _ a3 shapeCasts_S1x2048x9728_S2048x9728) slices_S2048x9728_S2048x4096_0_5632)) bitsLt_bf16_f32 = Cert.Spec.gates a0 a1 a2 a3 := by
  funext i
  idx_vars i
  unfold Spec.gates Spec.gateE Spec.normE
  pointwise

/-- Every run ends with the results at the specification of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v27) = Cert.Spec.gates (m ((c.tc : Thread nD τ).loc main_arg0)) (m ((c.tc : Thread nD τ).loc main_arg1)) (m ((c.tc : Thread nD τ).loc main_arg2)) (m ((c.tc : Thread nD τ).loc main_arg3)) :=
  (θ_run defs _ _).mono (fun r h c => (h c).1.trans (gates_val _ _ _ _)) (Value.run (F := Ideal) m ρ)

end Cert.RGates

end
-- ==== Proof.RFfn.lean ====
/- The plain program's feed-forward part is the specification's. -/
module

public import proofs.«01_k».proof.Proof.Spec
public import proofs.«01_k».proof.Proof.Gen.FfnReferenceIdeal.Run
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.RFfn

open Idealize.ShloMosaic Idealize.ShloMosaic.TcCoe Idealize.SL.Sem Cert.FfnReferenceIdeal Cert.FfnReferenceIdeal.Gen Cert.FfnReferenceIdeal.Value

theorem ffn_val (a0 : FVec Ideal ⟨3, ![8, 2048, 2048]⟩ .bf16) (a1 : FVec Ideal ⟨3, ![8, 2048, 2048]⟩ .f32) (a2 : FVec Ideal ⟨2, ![8, 8192]⟩ .f32) (a3 : FVec Ideal ⟨3, ![1, 2048, 8192]⟩ .f32) (a4 : FVec Ideal ⟨3, ![1, 8192, 2048]⟩ .f32) :
    addf a1 (mulf (broadcastInDim S8x2048x2048 ![0, 1, 2] bcast_S8x1x2048_S8x2048x2048_0_1_2 (broadcastInDim S8x1x2048 ![0, 2] bcast_S8x2048_S8x1x2048_0_2 (extractStridedSlice S8x2048 ![0, 6144] a2 slices_S8x8192_S8x2048_0_6144))) (Host.dotGeneral dot_S8x2048x8192_S8192x2048_S8x2048x2048_2_0_01_1_n_n none (mulf (maximumf (Host.dotGeneral dot_S8x2048x2048_S2048x8192_S8x2048x8192_2_0_01_1_n_n none (extf .f32 a0 bitsLt_bf16_f32) (shapeCast _ a3 shapeCasts_S1x2048x8192_S2048x8192)) (broadcastInDim S8x2048x8192 ![] bcast_S_S8x2048x8192 (constant S_ .f32 0x00000000#32))) (maximumf (Host.dotGeneral dot_S8x2048x2048_S2048x8192_S8x2048x8192_2_0_01_1_n_n none (extf .f32 a0 bitsLt_bf16_f32) (shapeCast _ a3 shapeCasts_S1x2048x8192_S2048x8192)) (broadcastInDim S8x2048x8192 ![] bcast_S_S8x2048x8192 (constant S_ .f32 0x00000000#32)))) (shapeCast _ a4 shapeCasts_S1x8192x2048_S8192x2048))) = Cert.Spec.ffn a0 a1 a2 a3 a4 := by
  funext i
  idx_vars i
  unfold Spec.ffn Spec.hidE
  pointwise

/-- Every run ends with the results at the specification of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v14) = Cert.Spec.ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (θ_run defs _ _).mono (fun r h c => (h c).1.trans (ffn_val _ _ _ _ _)) (Value.run (F := Ideal) m ρ)

end Cert.RFfn

end
-- ==== Proof.RMerge.lean ====
/- The plain program's merge is the specification's. -/
module

public import proofs.«01_k».proof.Proof.Spec
public import proofs.«01_k».proof.Proof.Gen.MergeReferenceIdeal.Run
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.RMerge

open Idealize.ShloMosaic Idealize.ShloMosaic.TcCoe Idealize.SL.Sem Cert.MergeReferenceIdeal Cert.MergeReferenceIdeal.Gen Cert.MergeReferenceIdeal.Value

theorem x1_val (a0 : FVec Ideal ⟨3, ![8, 2048, 2048]⟩ .f32) (a1 : FVec Ideal ⟨3, ![8, 2048, 1024]⟩ .bf16) (a2 : FVec Ideal ⟨3, ![8, 2048, 1024]⟩ .bf16) (a3 : FVec Ideal ⟨3, ![8, 2048, 4096]⟩ .bf16) (a4 : FVec Ideal ⟨3, ![1, 1024, 2048]⟩ .f32) (a5 : FVec Ideal ⟨3, ![1, 1024, 2048]⟩ .f32) (a6 : FVec Ideal ⟨3, ![1, 2048, 2048]⟩ .f32) (a7 : FVec Ideal ⟨2, ![8, 8192]⟩ .f32) :
    addf a0 (mulf (broadcastInDim S8x2048x2048 ![0, 1, 2] bcast_S8x1x2048_S8x2048x2048_0_1_2 (broadcastInDim S8x1x2048 ![0, 2] bcast_S8x2048_S8x1x2048_0_2 (extractStridedSlice S8x2048 ![0, 0] a7 slices_S8x8192_S8x2048_0_0))) (Host.dotGeneral dot_S8x2048x2048_S2048x2048_S8x2048x2048_2_0_01_1_n_n none (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 0] (extf .f32 a3 bitsLt_bf16_f32) slices_S8x2048x4096_S8x2048x2048_0_0_0))))) (Host.dotGeneral dot_S8x2048x1024_S1024x2048_S8x2048x2048_2_0_01_1_n_n none (extf .f32 a1 bitsLt_bf16_f32) (shapeCast _ a4 shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] (extf .f32 a3 bitsLt_bf16_f32) slices_S8x2048x4096_S8x2048x2048_0_0_2048))))) (Host.dotGeneral dot_S8x2048x1024_S1024x2048_S8x2048x2048_2_0_01_1_n_n none (extf .f32 a2 bitsLt_bf16_f32) (shapeCast _ a5 shapeCasts_S1x1024x2048_S1024x2048)))) (shapeCast _ a6 shapeCasts_S1x2048x2048_S2048x2048))) = Cert.Spec.x1 a0 a1 a2 a3 a4 a5 a6 a7 := by
  funext i
  idx_vars i
  have e : ∀ z : EReal, Ideal.logistic z = Ideal.div 1 (1 + Ideal.exp (-z)) := fun _ => rfl
  unfold Spec.x1 Spec.x1E Spec.mergedE
  simp only [e]
  pointwise

theorem h2_val (a0 : FVec Ideal ⟨3, ![8, 2048, 2048]⟩ .f32) (a1 : FVec Ideal ⟨3, ![8, 2048, 1024]⟩ .bf16) (a2 : FVec Ideal ⟨3, ![8, 2048, 1024]⟩ .bf16) (a3 : FVec Ideal ⟨3, ![8, 2048, 4096]⟩ .bf16) (a4 : FVec Ideal ⟨3, ![1, 1024, 2048]⟩ .f32) (a5 : FVec Ideal ⟨3, ![1, 1024, 2048]⟩ .f32) (a6 : FVec Ideal ⟨3, ![1, 2048, 2048]⟩ .f32) (a7 : FVec Ideal ⟨2, ![8, 8192]⟩ .f32) (a8 : FVec Ideal ⟨2, ![1, 2048]⟩ .f32) :
    truncf .bf16 (addf (mulf (mulf (mulf (addf a0 (mulf (broadcastInDim S8x2048x2048 ![0, 1, 2] bcast_S8x1x2048_S8x2048x2048_0_1_2 (broadcastInDim S8x1x2048 ![0, 2] bcast_S8x2048_S8x1x2048_0_2 (extractStridedSlice S8x2048 ![0, 0] a7 slices_S8x8192_S8x2048_0_0))) (Host.dotGeneral dot_S8x2048x2048_S2048x2048_S8x2048x2048_2_0_01_1_n_n none (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 0] (extf .f32 a3 bitsLt_bf16_f32) slices_S8x2048x4096_S8x2048x2048_0_0_0))))) (Host.dotGeneral dot_S8x2048x1024_S1024x2048_S8x2048x2048_2_0_01_1_n_n none (extf .f32 a1 bitsLt_bf16_f32) (shapeCast _ a4 shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] (extf .f32 a3 bitsLt_bf16_f32) slices_S8x2048x4096_S8x2048x2048_0_0_2048))))) (Host.dotGeneral dot_S8x2048x1024_S1024x2048_S8x2048x2048_2_0_01_1_n_n none (extf .f32 a2 bitsLt_bf16_f32) (shapeCast _ a5 shapeCasts_S1x1024x2048_S1024x2048)))) (shapeCast _ a6 shapeCasts_S1x2048x2048_S2048x2048)))) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (addf a0 (mulf (broadcastInDim S8x2048x2048 ![0, 1, 2] bcast_S8x1x2048_S8x2048x2048_0_1_2 (broadcastInDim S8x1x2048 ![0, 2] bcast_S8x2048_S8x1x2048_0_2 (extractStridedSlice S8x2048 ![0, 0] a7 slices_S8x8192_S8x2048_0_0))) (Host.dotGeneral dot_S8x2048x2048_S2048x2048_S8x2048x2048_2_0_01_1_n_n none (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 0] (extf .f32 a3 bitsLt_bf16_f32) slices_S8x2048x4096_S8x2048x2048_0_0_0))))) (Host.dotGeneral dot_S8x2048x1024_S1024x2048_S8x2048x2048_2_0_01_1_n_n none (extf .f32 a1 bitsLt_bf16_f32) (shapeCast _ a4 shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] (extf .f32 a3 bitsLt_bf16_f32) slices_S8x2048x4096_S8x2048x2048_0_0_2048))))) (Host.dotGeneral dot_S8x2048x1024_S1024x2048_S8x2048x2048_2_0_01_1_n_n none (extf .f32 a2 bitsLt_bf16_f32) (shapeCast _ a5 shapeCasts_S1x1024x2048_S1024x2048)))) (shapeCast _ a6 shapeCasts_S1x2048x2048_S2048x2048)))) (addf a0 (mulf (broadcastInDim S8x2048x2048 ![0, 1, 2] bcast_S8x1x2048_S8x2048x2048_0_1_2 (broadcastInDim S8x1x2048 ![0, 2] bcast_S8x2048_S8x1x2048_0_2 (extractStridedSlice S8x2048 ![0, 0] a7 slices_S8x8192_S8x2048_0_0))) (Host.dotGeneral dot_S8x2048x2048_S2048x2048_S8x2048x2048_2_0_01_1_n_n none (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 0] (extf .f32 a3 bitsLt_bf16_f32) slices_S8x2048x4096_S8x2048x2048_0_0_0))))) (Host.dotGeneral dot_S8x2048x1024_S1024x2048_S8x2048x2048_2_0_01_1_n_n none (extf .f32 a1 bitsLt_bf16_f32) (shapeCast _ a4 shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] (extf .f32 a3 bitsLt_bf16_f32) slices_S8x2048x4096_S8x2048x2048_0_0_2048))))) (Host.dotGeneral dot_S8x2048x1024_S1024x2048_S8x2048x2048_2_0_01_1_n_n none (extf .f32 a2 bitsLt_bf16_f32) (shapeCast _ a5 shapeCasts_S1x1024x2048_S1024x2048)))) (shapeCast _ a6 shapeCasts_S1x2048x2048_S2048x2048))))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a8 shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 4096] a7 slices_S8x8192_S8x2048_0_4096))))) (broadcastInDim S8x2048x2048 ![0, 1, 2] bcast_S8x1x2048_S8x2048x2048_0_1_2 (broadcastInDim S8x1x2048 ![0, 2] bcast_S8x2048_S8x1x2048_0_2 (extractStridedSlice S8x2048 ![0, 2048] a7 slices_S8x8192_S8x2048_0_2048)))) bitsLt_bf16_f32 = Cert.Spec.h2 a0 a1 a2 a3 a4 a5 a6 a7 a8 := by
  funext i
  idx_vars i
  have e : ∀ z : EReal, Ideal.logistic z = Ideal.div 1 (1 + Ideal.exp (-z)) := fun _ => rfl
  unfold Spec.h2 Spec.norm2E Spec.x1E Spec.mergedE
  simp only [e]
  pointwise

/-- Every run ends with the results at the specification of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v33) = Cert.Spec.x1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v56) = Cert.Spec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (θ_run defs _ _).mono (fun r h c => ⟨(h c).1.trans (x1_val _ _ _ _ _ _ _ _), (h c).2.1.trans (h2_val _ _ _ _ _ _ _ _ _)⟩) (Value.run (F := Ideal) m ρ)

end Cert.RMerge

end
-- ==== Proof.RInproj.lean ====
/- The plain program's projection is the specification's. -/
module

public import proofs.«01_k».proof.Proof.Spec
public import proofs.«01_k».proof.Proof.Gen.InprojReferenceIdeal.Run
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.RInproj

open Idealize.ShloMosaic Idealize.ShloMosaic.TcCoe Idealize.SL.Sem Cert.InprojReferenceIdeal Cert.InprojReferenceIdeal.Gen Cert.InprojReferenceIdeal.Value

theorem proj_val (a0 : FVec Ideal ⟨3, ![8, 2048, 2048]⟩ .f32) (a2 : FVec Ideal ⟨2, ![8, 4096]⟩ .f32) (a3 : FVec Ideal ⟨2, ![1, 2048]⟩ .f32) (a4 : FVec Ideal ⟨3, ![1, 2048, 9728]⟩ .f32) :
    truncf .bf16 (Host.dotGeneral dot_S8x2048x2048_S2048x5632_S8x2048x5632_2_0_01_1_n_n none (addf (mulf (mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a3 shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] a2 slices_S8x4096_S8x2048_0_2048))))) (broadcastInDim S8x2048x2048 ![0, 1, 2] bcast_S8x1x2048_S8x2048x2048_0_1_2 (broadcastInDim S8x1x2048 ![0, 2] bcast_S8x2048_S8x1x2048_0_2 (extractStridedSlice S8x2048 ![0, 0] a2 slices_S8x4096_S8x2048_0_0)))) (extractStridedSlice S2048x5632 ![0, 0] (shapeCast _ a4 shapeCasts_S1x2048x9728_S2048x9728) slices_S2048x9728_S2048x5632_0_0)) bitsLt_bf16_f32 = Cert.Spec.proj a0 a2 a3 a4 := by
  funext i
  idx_vars i
  unfold Spec.proj Spec.normE
  pointwise

/-- Every run ends with the results at the specification of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v27) = Cert.Spec.proj (m ((c.tc : Thread nD τ).loc main_arg0)) (m ((c.tc : Thread nD τ).loc main_arg2)) (m ((c.tc : Thread nD τ).loc main_arg3)) (m ((c.tc : Thread nD τ).loc main_arg4)) :=
  (θ_run defs _ _).mono (fun r h c => (h c).1.trans (proj_val _ _ _ _)) (Value.run (F := Ideal) m ρ)

end Cert.RInproj

end
-- ==== Proof.lean ====
/- The certificate: the frames of the four calls, their idealizations, and their results as functions of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Pre_finite
public import proofs.«01_k».proof.Proof.Spec
public import proofs.«01_k».proof.Proof.Finite
public import proofs.«01_k».proof.Proof.Gates
public import proofs.«01_k».proof.Proof.KFfn
public import proofs.«01_k».proof.Proof.KMerge
public import proofs.«01_k».proof.Proof.KInproj
public import proofs.«01_k».proof.Proof.RGates
public import proofs.«01_k».proof.Proof.RFfn
public import proofs.«01_k».proof.Proof.RMerge
public import proofs.«01_k».proof.Proof.RInproj
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

theorem gates_eq {a0 b0 : FVec Ideal ⟨3, ![8, 2048, 2048]⟩ .f32} {a1 b1 : FVec Ideal ⟨2, ![8, 4096]⟩ .f32} {a2 b2 : FVec Ideal ⟨2, ![1, 2048]⟩ .f32} {a3 b3 : FVec Ideal ⟨3, ![1, 2048, 9728]⟩ .f32} (h0 : a0 = b0) (h1 : a1 = b1) (h2 : a2 = b2) (h3 : a3 = b3) : Cert.Spec.gates a0 a1 a2 a3 = Cert.Spec.gates b0 b1 b2 b3 := by
  rw [h0, h1, h2, h3]

theorem alg_gates : Cert.algebraic_KernelIdeal_ReferenceIdeal := by
  intro m g m' g' hpre hagree
  refine ⟨fun c => Cert.Spec.gates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), (θ_run _ _ _).mono (fun r h c => ⟨(h c).1.trans (Cert.Gates.final m c), (h c).2.2.2⟩) (Cert.KernelIdeal.Value.run_blocks (F := Ideal) m g), (θ_run _ _ _).mono (fun r h c => ?_) (Cert.ReferenceIdeal.Value.run (F := Ideal) m' g')⟩
  obtain ⟨a0, a1, a2, a3, a4, a5, a6, a7, a8, a9, a10⟩ := hagree c
  exact ⟨((h c).1.trans (Cert.RGates.gates_val _ _ _ _)).trans (gates_eq a0 a1 a2 a3), (h c).2⟩

theorem ffn_eq {a0 b0 : FVec Ideal ⟨3, ![8, 2048, 2048]⟩ .bf16} {a1 b1 : FVec Ideal ⟨3, ![8, 2048, 2048]⟩ .f32} {a2 b2 : FVec Ideal ⟨2, ![8, 8192]⟩ .f32} {a3 b3 : FVec Ideal ⟨3, ![1, 2048, 8192]⟩ .f32} {a4 b4 : FVec Ideal ⟨3, ![1, 8192, 2048]⟩ .f32} (h0 : a0 = b0) (h1 : a1 = b1) (h2 : a2 = b2) (h3 : a3 = b3) (h4 : a4 = b4) : Cert.Spec.ffn a0 a1 a2 a3 a4 = Cert.Spec.ffn b0 b1 b2 b3 b4 := by
  rw [h0, h1, h2, h3, h4]

theorem alg_ffn : Cert.algebraic_FfnIdeal_FfnReferenceIdeal_pre_finite := by
  intro m g m' g' hpre hagree
  refine ⟨fun c => Cert.Spec.ffn (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)), (θ_run _ _ _).mono (fun r h c => ⟨((h c).1.trans (let f := Cert.Finite.of_pre _ _ _ _ _ (hpre c); Cert.KFfn.final m c f.1 f.2.1 f.2.2.1 f.2.2.2)), (h c).2⟩) (Cert.FfnIdeal.Value.run (F := Ideal) m g), (θ_run _ _ _).mono (fun r h c => ?_) (Cert.FfnReferenceIdeal.Value.run (F := Ideal) m' g')⟩
  obtain ⟨a0, a1, a2, a3, a4⟩ := hagree c
  exact ⟨((h c).1.trans (Cert.RFfn.ffn_val _ _ _ _ _)).trans (ffn_eq a0 a1 a2 a3 a4), (h c).2⟩

theorem x1_eq {a0 b0 : FVec Ideal ⟨3, ![8, 2048, 2048]⟩ .f32} {a1 b1 : FVec Ideal ⟨3, ![8, 2048, 1024]⟩ .bf16} {a2 b2 : FVec Ideal ⟨3, ![8, 2048, 1024]⟩ .bf16} {a3 b3 : FVec Ideal ⟨3, ![8, 2048, 4096]⟩ .bf16} {a4 b4 : FVec Ideal ⟨3, ![1, 1024, 2048]⟩ .f32} {a5 b5 : FVec Ideal ⟨3, ![1, 1024, 2048]⟩ .f32} {a6 b6 : FVec Ideal ⟨3, ![1, 2048, 2048]⟩ .f32} {a7 b7 : FVec Ideal ⟨2, ![8, 8192]⟩ .f32} (h0 : a0 = b0) (h1 : a1 = b1) (h2 : a2 = b2) (h3 : a3 = b3) (h4 : a4 = b4) (h5 : a5 = b5) (h6 : a6 = b6) (h7 : a7 = b7) : Cert.Spec.x1 a0 a1 a2 a3 a4 a5 a6 a7 = Cert.Spec.x1 b0 b1 b2 b3 b4 b5 b6 b7 := by
  rw [h0, h1, h2, h3, h4, h5, h6, h7]

theorem h2_eq {a0 b0 : FVec Ideal ⟨3, ![8, 2048, 2048]⟩ .f32} {a1 b1 : FVec Ideal ⟨3, ![8, 2048, 1024]⟩ .bf16} {a2 b2 : FVec Ideal ⟨3, ![8, 2048, 1024]⟩ .bf16} {a3 b3 : FVec Ideal ⟨3, ![8, 2048, 4096]⟩ .bf16} {a4 b4 : FVec Ideal ⟨3, ![1, 1024, 2048]⟩ .f32} {a5 b5 : FVec Ideal ⟨3, ![1, 1024, 2048]⟩ .f32} {a6 b6 : FVec Ideal ⟨3, ![1, 2048, 2048]⟩ .f32} {a7 b7 : FVec Ideal ⟨2, ![8, 8192]⟩ .f32} {a8 b8 : FVec Ideal ⟨2, ![1, 2048]⟩ .f32} (h0 : a0 = b0) (h1 : a1 = b1) (h2 : a2 = b2) (h3 : a3 = b3) (h4 : a4 = b4) (h5 : a5 = b5) (h6 : a6 = b6) (h7 : a7 = b7) (h8 : a8 = b8) : Cert.Spec.h2 a0 a1 a2 a3 a4 a5 a6 a7 a8 = Cert.Spec.h2 b0 b1 b2 b3 b4 b5 b6 b7 b8 := by
  rw [h0, h1, h2, h3, h4, h5, h6, h7, h8]

theorem alg_merge : Cert.algebraic_MergeIdeal_MergeReferenceIdeal := by
  intro m g m' g' hpre hagree
  refine ⟨fun c => Cert.Spec.x1 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), fun c => Cert.Spec.h2 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)), (θ_run _ _ _).mono (fun r h c => ⟨(h c).1.trans (Cert.KMerge.final11 m c), (h c).2.1.trans (Cert.KMerge.final12 m c), (h c).2.2⟩) (Cert.MergeIdeal.Value.run_blocks (F := Ideal) m g), (θ_run _ _ _).mono (fun r h c => ?_) (Cert.MergeReferenceIdeal.Value.run (F := Ideal) m' g')⟩
  obtain ⟨a0, a1, a2, a3, a4, a5, a6, a7, a8⟩ := hagree c
  exact ⟨((h c).1.trans (Cert.RMerge.x1_val _ _ _ _ _ _ _ _)).trans (x1_eq a0 a1 a2 a3 a4 a5 a6 a7), ((h c).2.1.trans (Cert.RMerge.h2_val _ _ _ _ _ _ _ _ _)).trans (h2_eq a0 a1 a2 a3 a4 a5 a6 a7 a8), (h c).2.2⟩

theorem proj_eq {a0 b0 : FVec Ideal ⟨3, ![8, 2048, 2048]⟩ .f32} {a2 b2 : FVec Ideal ⟨2, ![8, 4096]⟩ .f32} {a3 b3 : FVec Ideal ⟨2, ![1, 2048]⟩ .f32} {a4 b4 : FVec Ideal ⟨3, ![1, 2048, 9728]⟩ .f32} (h0 : a0 = b0) (h2 : a2 = b2) (h3 : a3 = b3) (h4 : a4 = b4) : Cert.Spec.proj a0 a2 a3 a4 = Cert.Spec.proj b0 b2 b3 b4 := by
  rw [h0, h2, h3, h4]

theorem alg_inproj : Cert.algebraic_InprojIdeal_InprojReferenceIdeal := by
  intro m g m' g' hpre hagree
  refine ⟨fun c => Cert.Spec.proj (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)), (θ_run _ _ _).mono (fun r h c => ⟨(h c).1.trans (Cert.KInproj.final m c), (h c).2.2.2.2.2.2.2⟩) (Cert.InprojIdeal.Value.run_blocks (F := Ideal) m g), (θ_run _ _ _).mono (fun r h c => ?_) (Cert.InprojReferenceIdeal.Value.run (F := Ideal) m' g')⟩
  obtain ⟨a0, a1, a2, a3, a4, a5, a6, a7, a8, a9, a10, a11⟩ := hagree c
  exact ⟨((h c).1.trans (Cert.RInproj.proj_val _ _ _ _)).trans (proj_eq a0 a2 a3 a4), (h c).2⟩

theorem frame_ReferenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_FfnReferenceIdeal : Cert.quiescent_FfnReferenceIdeal := fun m g _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m g)

theorem frame_FfnReferenceIdeal_pre_finite : Cert.quiescent_FfnReferenceIdeal_pre_finite := fun m g _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m g)

theorem frame_MergeReferenceIdeal : Cert.quiescent_MergeReferenceIdeal := fun m g _ =>
  (θ_run Cert.MergeReferenceIdeal.defs _ _).mono (fun r h => ⟨fun c => (h c).2.2, Idealize.ShloMosaic.sem_eq_zero_of_no_sems (by decide) r.2⟩)
    (Cert.MergeReferenceIdeal.Value.run (F := Ideal) m g)

theorem frame_InprojReferenceIdeal : Cert.quiescent_InprojReferenceIdeal := fun m g _ =>
  (θ_run Cert.InprojReferenceIdeal.defs _ _).mono (fun r h => ⟨fun c => (h c).2, Idealize.ShloMosaic.sem_eq_zero_of_no_sems (by decide) r.2⟩)
    (Cert.InprojReferenceIdeal.Value.run (F := Ideal) m g)

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.Inproj.Gen.facts, Cert.InprojIdeal.Gen.facts, Cert.InprojReferenceIdeal.Gen.facts, Cert.Pre_finite.Gen.facts,
  fun m g _ => Cert.Kernel.Gen.frame m g,
  fun m g _ => Cert.KernelIdeal.Gen.frame m g,
  frame_ReferenceIdeal,
  fun m g _ => Cert.Ffn.Gen.frame m g,
  fun m g _ => Cert.FfnIdeal.Gen.frame m g,
  fun m g _ => Cert.FfnIdeal.Gen.frame m g,
  frame_FfnReferenceIdeal,
  frame_FfnReferenceIdeal_pre_finite,
  fun m g _ => Cert.Merge.Gen.frame m g,
  fun m g _ => Cert.MergeIdeal.Gen.frame m g,
  frame_MergeReferenceIdeal,
  fun m g _ => Cert.Inproj.Gen.frame m g,
  fun m g _ => Cert.InprojIdeal.Gen.frame m g,
  frame_InprojReferenceIdeal,
  ⟨IdealRules.named_const.statement Cert.KernelIdeal.κ "mask" .f32 0xF149F2CA#32 ⊥ rfl, IdealRules.named_const.statement Cert.KernelIdeal.κ "scale_log2e" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl⟩,
  alg_gates,
  trivial,
  alg_ffn,
  trivial,
  alg_merge,
  trivial,
  alg_inproj⟩

end Cert.Proof

end
